-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sources_name_nodes [hPre_sources_name_nodes : Cert.Pre_sources_name_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_sources_name_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sources_name_nodes [hPre_sources_name_nodes : Cert.Pre_sources_name_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sources_name_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_sources_name_nodes [hKernelIdeal : Cert.KernelIdeal.Facts] [hPre_sources_name_nodes : Cert.Pre_sources_name_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sources_name_nodes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_sources_name_nodes [hReferenceIdeal : Cert.ReferenceIdeal.Facts] [hPre_sources_name_nodes : Cert.Pre_sources_name_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sources_name_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_sources_name_nodes [hKernelIdeal : Cert.KernelIdeal.Facts] [hReferenceIdeal : Cert.ReferenceIdeal.Facts] [hPre_sources_name_nodes : Cert.Pre_sources_name_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sources_name_nodes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_sources_name_nodes : Cert.Pre_sources_name_nodes.Facts),
    quiescent_Kernel (hKernel := hKernel)
    ∧ quiescent_KernelIdeal (hKernelIdeal := hKernelIdeal)
    ∧ quiescent_KernelIdeal_pre_sources_name_nodes (hKernelIdeal := hKernelIdeal) (hPre_sources_name_nodes := hPre_sources_name_nodes)
    ∧ quiescent_ReferenceIdeal (hReferenceIdeal := hReferenceIdeal)
    ∧ quiescent_ReferenceIdeal_pre_sources_name_nodes (hReferenceIdeal := hReferenceIdeal) (hPre_sources_name_nodes := hPre_sources_name_nodes)
    ∧ preserves_Kernel_KernelIdeal
    ∧ algebraic_KernelIdeal_ReferenceIdeal_pre_sources_name_nodes (hKernelIdeal := hKernelIdeal) (hReferenceIdeal := hReferenceIdeal) (hPre_sources_name_nodes := hPre_sources_name_nodes)
-- ==== Pre_sources_name_nodes.lean ====
abbrev S35x1 : Shape := ⟨2, ![35, 1]⟩
abbrev S1190x6 : Shape := ⟨2, ![1190, 6]⟩
abbrev S2x1190 : Shape := ⟨2, ![2, 1190]⟩
abbrev S6x128 : Shape := ⟨2, ![6, 128]⟩
abbrev S128 : Shape := ⟨1, ![128]⟩
abbrev S1x128 : Shape := ⟨2, ![1, 128]⟩
abbrev S6x16384 : Shape := ⟨2, ![6, 16384]⟩
abbrev S16384 : Shape := ⟨1, ![16384]⟩
abbrev S128x128 : Shape := ⟨2, ![128, 128]⟩
abbrev S6x8192 : Shape := ⟨2, ![6, 8192]⟩
abbrev S8192 : Shape := ⟨1, ![8192]⟩
abbrev S128x64 : Shape := ⟨2, ![128, 64]⟩
abbrev S64 : Shape := ⟨1, ![64]⟩
abbrev S1x1190 : Shape := ⟨2, ![1, 1190]⟩
abbrev S1190 : Shape := ⟨1, ![1190]⟩
abbrev S_ : Shape := ⟨0, ![]⟩

class Facts : Prop where
  slices_S2x1190_S1x1190_0_0 : S2x1190.Slices ![0, 0] S1x1190
  shapeCasts_S1x1190_S1190 : S1x1190.ShapeCasts S1190
  bcast_S_S1190 : S_.BroadcastsInDim S1190 (![] : Fin 0 → Fin S1190.rank)

variable [Facts]

def fn {F : FTy → Type} [FloatOps F] (main_arg0 : FVec F S35x1 .f32) (main_arg1 : FVec F S1190x6 .f32) (main_arg2 : IVec S2x1190 32) (main_arg3 : FVec F S6x128 .f32) (main_arg4 : FVec F S128 .f32) (main_arg5 : FVec F S1x128 .f32) (main_arg6 : FVec F S128 .f32) (main_arg7 : FVec F S6x16384 .f32) (main_arg8 : FVec F S16384 .f32) (main_arg9 : FVec F S128x128 .f32) (main_arg10 : FVec F S128 .f32) (main_arg11 : FVec F S6x8192 .f32) (main_arg12 : FVec F S8192 .f32) (main_arg13 : FVec F S128x64 .f32) (main_arg14 : FVec F S64 .f32) : IVec S1190 1 :=
  let main_v0 : IVec S1x1190 32 := (extractStridedSlice S1x1190 ![0, 0] · slices_S2x1190_S1x1190_0_0) main_arg2
  let main_v1 : IVec S1190 32 := shapeCast S1190 main_v0 shapeCasts_S1x1190_S1190
  let main_c : IVec S_ 32 := constantI S_ 32 0#32
  let main_v2 : IVec S1190 32 := broadcastInDim S1190 ![] bcast_S_S1190 main_c
  let main_v3 : IVec S1190 1 := cmpi .sge main_v1 main_v2
  let main_c_0 : IVec S_ 32 := constantI S_ 32 35#32
  let main_v4 : IVec S1190 32 := broadcastInDim S1190 ![] bcast_S_S1190 main_c_0
  let main_v5 : IVec S1190 1 := cmpi .slt main_v1 main_v4
  let main_v6 : IVec S1190 1 := andi main_v3 main_v5
  main_v6
-- ==== Kernel.lean ====
abbrev S35x1 : Shape := ⟨2, ![35, 1]⟩
abbrev S1190x6 : Shape := ⟨2, ![1190, 6]⟩
abbrev S2x1190 : Shape := ⟨2, ![2, 1190]⟩
abbrev S6x128 : Shape := ⟨2, ![6, 128]⟩
abbrev S128 : Shape := ⟨1, ![128]⟩
abbrev S1x128 : Shape := ⟨2, ![1, 128]⟩
abbrev S6x16384 : Shape := ⟨2, ![6, 16384]⟩
abbrev S16384 : Shape := ⟨1, ![16384]⟩
abbrev S128x128 : Shape := ⟨2, ![128, 128]⟩
abbrev S6x8192 : Shape := ⟨2, ![6, 8192]⟩
abbrev S8192 : Shape := ⟨1, ![8192]⟩
abbrev S128x64 : Shape := ⟨2, ![128, 64]⟩
abbrev S64 : Shape := ⟨1, ![64]⟩
abbrev S_ : Shape := ⟨0, ![]⟩
abbrev S1280x7 : Shape := ⟨2, ![1280, 7]⟩
abbrev S1 : Shape := ⟨1, ![1]⟩
abbrev S2 : Shape := ⟨1, ![2]⟩
abbrev S1280 : Shape := ⟨1, ![1280]⟩
abbrev S1280x1 : Shape := ⟨2, ![1280, 1]⟩
abbrev S1x1190 : Shape := ⟨2, ![1, 1190]⟩
abbrev S1190 : Shape := ⟨1, ![1190]⟩
abbrev S1x1280 : Shape := ⟨2, ![1, 1280]⟩
abbrev S7x128 : Shape := ⟨2, ![7, 128]⟩
abbrev S1x16384 : Shape := ⟨2, ![1, 16384]⟩
abbrev S7x16384 : Shape := ⟨2, ![7, 16384]⟩
abbrev S1x8192 : Shape := ⟨2, ![1, 8192]⟩
abbrev S7x8192 : Shape := ⟨2, ![7, 8192]⟩
abbrev S1x64 : Shape := ⟨2, ![1, 64]⟩
abbrev S35x35 : Shape := ⟨2, ![35, 35]⟩
abbrev S1280x35 : Shape := ⟨2, ![1280, 35]⟩
abbrev S35x1280 : Shape := ⟨2, ![35, 1280]⟩
abbrev S35 : Shape := ⟨1, ![35]⟩
abbrev S1280x128 : Shape := ⟨2, ![1280, 128]⟩
abbrev S35x128 : Shape := ⟨2, ![35, 128]⟩
abbrev S128x4096 : Shape := ⟨2, ![128, 4096]⟩
abbrev S7x4096 : Shape := ⟨2, ![7, 4096]⟩
abbrev S1280x4096 : Shape := ⟨2, ![1280, 4096]⟩
abbrev S4096x64 : Shape := ⟨2, ![4096, 64]⟩
abbrev S1280x64 : Shape := ⟨2, ![1280, 64]⟩
abbrev S35x64 : Shape := ⟨2, ![35, 64]⟩
abbrev S35x1x64 : Shape := ⟨3, ![35, 1, 64]⟩
abbrev S1x35x64 : Shape := ⟨3, ![1, 35, 64]⟩
abbrev S35x35x64 : Shape := ⟨3, ![35, 35, 64]⟩

abbrev nBuf : Space → Nat
  | .hbm => 62
  | .vmem => 14
  | .smem => 0
  | _ => 0

abbrev bufTy : (tb : Table) → Fin (tcTables nBuf tb) → BufTy
  | .hbm, ⟨0, _⟩ => ⟨S35x1, .f32⟩
  | .hbm, ⟨1, _⟩ => ⟨S1190x6, .f32⟩
  | .hbm, ⟨2, _⟩ => ⟨S2x1190, .i32⟩
  | .hbm, ⟨3, _⟩ => ⟨S6x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S6x16384, .f32⟩
  | .hbm, ⟨8, _⟩ => ⟨S16384, .f32⟩
  | .hbm, ⟨9, _⟩ => ⟨S128x128, .f32⟩
  | .hbm, ⟨10, _⟩ => ⟨S128, .f32⟩
  | .hbm, ⟨11, _⟩ => ⟨S6x8192, .f32⟩
  | .hbm, ⟨12, _⟩ => ⟨S8192, .f32⟩
  | .hbm, ⟨13, _⟩ => ⟨S128x64, .f32⟩
  | .hbm, ⟨14, _⟩ => ⟨S64, .f32⟩
  | .hbm, ⟨15, _⟩ => ⟨S_, .f32⟩
  | .hbm, ⟨16, _⟩ => ⟨S1280x7, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1280x7, .f32⟩
  | .hbm, ⟨23, _⟩ => ⟨S_, .i32⟩
  | .hbm, ⟨24, _⟩ => ⟨S1, .i32⟩
  | .hbm, ⟨25, _⟩ => ⟨S_, .f32⟩
  | .hbm, ⟨26, _⟩ => ⟨S1280, .f32⟩
  | .hbm, ⟨27, _⟩ => ⟨S1280x7, .f32⟩
  | .hbm, ⟨28, _⟩ => ⟨S1280x7, .bf16⟩
  | .hbm, ⟨29, _⟩ => ⟨S_, .i32⟩
  | .hbm, ⟨30, _⟩ => ⟨S1280x1, .i32⟩
  | .hbm, ⟨31, _⟩ => ⟨S1x1190, .i32⟩
  | .hbm, ⟨32, _⟩ => ⟨S1190, .i32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S1280x1, .i32⟩
  | .hbm, ⟨39, _⟩ => ⟨S_, .i32⟩
  | .hbm, ⟨40, _⟩ => ⟨S1x1280, .i32⟩
  | .hbm, ⟨41, _⟩ => ⟨S1x1190, .i32⟩
  | .hbm, ⟨42, _⟩ => ⟨S1190, .i32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S1x1280, .i32⟩
  | .hbm, ⟨49, _⟩ => ⟨S1x128, .f32⟩
  | .hbm, ⟨50, _⟩ => ⟨S7x128, .f32⟩
  | .hbm, ⟨51, _⟩ => ⟨S7x128, .bf16⟩
  | .hbm, ⟨52, _⟩ => ⟨S1x16384, .f32⟩
  | .hbm, ⟨53, _⟩ => ⟨S7x16384, .f32⟩
  | .hbm, ⟨54, _⟩ => ⟨S7x16384, .bf16⟩
  | .hbm, ⟨55, _⟩ => ⟨S1x8192, .f32⟩
  | .hbm, ⟨56, _⟩ => ⟨S7x8192, .f32⟩
  | .hbm, ⟨57, _⟩ => ⟨S7x8192, .bf16⟩
  | .hbm, ⟨58, _⟩ => ⟨S1x128, .f32⟩
  | .hbm, ⟨59, _⟩ => ⟨S1x128, .f32⟩
  | .hbm, ⟨60, _⟩ => ⟨S1x64, .f32⟩
  | .hbm, ⟨61, _⟩ => ⟨S35x35, .f32⟩
  | .local _ .vmem, ⟨0, _⟩ => ⟨S1280x7, .bf16⟩
  | .local _ .vmem, ⟨1, _⟩ => ⟨S1280x1, .i32⟩
  | .local _ .vmem, ⟨2, _⟩ => ⟨S1x1280, .i32⟩
  | .local _ .vmem, ⟨3, _⟩ => ⟨S35x1, .f32⟩
  | .local _ .vmem, ⟨4, _⟩ => ⟨S7x128, .bf16⟩
  | .local _ .vmem, ⟨5, _⟩ => ⟨S1x128, .f32⟩
  | .local _ .vmem, ⟨6, _⟩ => ⟨S1x128, .f32⟩
  | .local _ .vmem, ⟨7, _⟩ => ⟨S7x16384, .bf16⟩
  | .local _ .vmem, ⟨8, _⟩ => ⟨S128x128, .f32⟩
  | .local _ .vmem, ⟨9, _⟩ => ⟨S1x128, .f32⟩
  | .local _ .vmem, ⟨10, _⟩ => ⟨S7x8192, .bf16⟩
  | .local _ .vmem, ⟨11, _⟩ => ⟨S128x64, .f32⟩
  | .local _ .vmem, ⟨12, _⟩ => ⟨S1x64, .f32⟩
  | .local _ .vmem, ⟨13, _⟩ => ⟨S35x35, .f32⟩
  | _, _ => ⟨S35x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_cst : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_cst_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_4 : Ref sig .tc := ⟨.hbm, 33, rfl⟩
abbrev main_call0_v12 : Ref sig .tc := ⟨.hbm, 34, rfl⟩
abbrev main_call0_c_5 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_c_6 : Ref sig .tc := ⟨.hbm, 39, rfl⟩
abbrev main_call0_v16 : Ref sig .tc := ⟨.hbm, 40, rfl⟩
abbrev main_call0_v17 : Ref sig .tc := ⟨.hbm, 41, rfl⟩
abbrev main_call0_v18 : Ref sig .tc := ⟨.hbm, 42, rfl⟩
abbrev main_call0_c_7 : Ref sig .tc := ⟨.hbm, 43, rfl⟩
abbrev main_call0_v19 : Ref sig .tc := ⟨.hbm, 44, rfl⟩
abbrev main_call0_c_8 : Ref sig .tc := ⟨.hbm, 45, rfl⟩
abbrev main_call0_v20 : Ref sig .tc := ⟨.hbm, 46, rfl⟩
abbrev main_call0_v21 : Ref sig .tc := ⟨.hbm, 47, rfl⟩
abbrev main_call0_v22 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_v32 : Ref sig .tc := ⟨.hbm, 58, rfl⟩
abbrev main_call0_v33 : Ref sig .tc := ⟨.hbm, 59, rfl⟩
abbrev main_call0_v34 : Ref sig .tc := ⟨.hbm, 60, rfl⟩
abbrev main_v0 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32_27 : BitVec 32 := 0#32
  let c4_i32 : BitVec 32 := 4#32
  let v73 : BitVec 32 := Scalar.addi c0_i32_27 c4_i32
  let c1_i32_28 : BitVec 32 := 1#32
  ⟨c0_i32_27, v73, c1_i32_28⟩
def k0_off1 (k0_t1 : Fin k0_t1_loop.trips) : Fin 2 → Nat :=
  let c0_64 : Index := 0#32
  let c0_i32_27 : BitVec 32 := 0#32
  let c1_i32_28 : BitVec 32 := 1#32
  let arg14 : BitVec 32 := Scf.iv c0_i32_27 c1_i32_28 k0_t1
  let c4096_i32 : BitVec 32 := 4096#32
  let v161 : BitVec 32 := Scalar.muli arg14 c4096_i32
  let v162 : Index := Scalar.indexCast v161
  ![0, v162.toNat]
@[reducible] def k0_t2_loop : Scf.Loop 32 :=
  let c0_i32_51 : BitVec 32 := 0#32
  let c2_i32 : BitVec 32 := 2#32
  let v139 : BitVec 32 := Scalar.addi c0_i32_51 c2_i32
  let c1_i32_52 : BitVec 32 := 1#32
  ⟨c0_i32_51, v139, c1_i32_52⟩
def k0_off2 (k0_t2 : Fin k0_t2_loop.trips) : Fin 2 → Nat :=
  let c0_64 : Index := 0#32
  let c0_i32_51 : BitVec 32 := 0#32
  let c1_i32_52 : BitVec 32 := 1#32
  let arg14 : BitVec 32 := Scf.iv c0_i32_51 c1_i32_52 k0_t2
  let c4096_i32 : BitVec 32 := 4096#32
  let v161 : BitVec 32 := Scalar.muli arg14 c4096_i32
  let v162 : Index := Scalar.indexCast v161
  ![0, v162.toNat]
abbrev stage0_0 : Fin 1 → Memref sig .tc .vmem S1280x7 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1280 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S35x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x16384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7x8192 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S35x35 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceIdeal.lean ====
abbrev S35x1 : Shape := ⟨2, ![35, 1]⟩
abbrev S1190x6 : Shape := ⟨2, ![1190, 6]⟩
abbrev S2x1190 : Shape := ⟨2, ![2, 1190]⟩
abbrev S6x128 : Shape := ⟨2, ![6, 128]⟩
abbrev S128 : Shape := ⟨1, ![128]⟩
abbrev S1x128 : Shape := ⟨2, ![1, 128]⟩
abbrev S6x16384 : Shape := ⟨2, ![6, 16384]⟩
abbrev S16384 : Shape := ⟨1, ![16384]⟩
abbrev S128x128 : Shape := ⟨2, ![128, 128]⟩
abbrev S6x8192 : Shape := ⟨2, ![6, 8192]⟩
abbrev S8192 : Shape := ⟨1, ![8192]⟩
abbrev S128x64 : Shape := ⟨2, ![128, 64]⟩
abbrev S64 : Shape := ⟨1, ![64]⟩
abbrev S1x1190 : Shape := ⟨2, ![1, 1190]⟩
abbrev S1190 : Shape := ⟨1, ![1190]⟩
abbrev S1190x128 : Shape := ⟨2, ![1190, 128]⟩
abbrev S_ : Shape := ⟨0, ![]⟩
abbrev S1190x1x128 : Shape := ⟨3, ![1190, 1, 128]⟩
abbrev S1190x1 : Shape := ⟨2, ![1190, 1]⟩
abbrev S1 : Shape := ⟨1, ![1]⟩
abbrev S1x1 : Shape := ⟨2, ![1, 1]⟩
abbrev S35x128 : Shape := ⟨2, ![35, 128]⟩
abbrev S35 : Shape := ⟨1, ![35]⟩
abbrev S1190x16384 : Shape := ⟨2, ![1190, 16384]⟩
abbrev S1x16384 : Shape := ⟨2, ![1, 16384]⟩
abbrev S1190x128x128 : Shape := ⟨3, ![1190, 128, 128]⟩
abbrev S1190x8192 : Shape := ⟨2, ![1190, 8192]⟩
abbrev S1x8192 : Shape := ⟨2, ![1, 8192]⟩
abbrev S1190x128x64 : Shape := ⟨3, ![1190, 128, 64]⟩
abbrev S1190x64 : Shape := ⟨2, ![1190, 64]⟩
abbrev S35x64 : Shape := ⟨2, ![35, 64]⟩
abbrev S1x64 : Shape := ⟨2, ![1, 64]⟩
abbrev S1x35x64 : Shape := ⟨3, ![1, 35, 64]⟩
abbrev S35x35x64 : Shape := ⟨3, ![35, 35, 64]⟩
abbrev S35x35 : Shape := ⟨2, ![35, 35]⟩

abbrev nBuf : Space → Nat
  | .hbm => 202
  | .vmem => 0
  | .smem => 0
  | _ => 0

abbrev hbmTy0_0 (i : Nat) : BufTy := match i % 128 with
  | 0 => ⟨S35x1, .f32⟩
  | 1 => ⟨S1190x6, .f32⟩
  | 2 => ⟨S2x1190, .i32⟩
  | 3 => ⟨S6x128, .f32⟩
  | 4 => ⟨S128, .f32⟩
  | 5 => ⟨S1x128, .f32⟩
  | 6 => ⟨S128, .f32⟩
  | 7 => ⟨S6x16384, .f32⟩
  | 8 => ⟨S16384, .f32⟩
  | 9 => ⟨S128x128, .f32⟩
  | 10 => ⟨S128, .f32⟩
  | 11 => ⟨S6x8192, .f32⟩
  | 12 => ⟨S8192, .f32⟩
  | 13 => ⟨S128x64, .f32⟩
  | 14 => ⟨S64, .f32⟩
  | 15 => ⟨S1x1190, .i32⟩
  | 16 => ⟨S1190, .i32⟩
  | 17 => ⟨S1x1190, .i32⟩
  | 18 => ⟨S1190, .i32⟩
  | 19 => ⟨S1190x128, .f32⟩
  | 20 => ⟨S1x128, .f32⟩
  | 21 => ⟨S1190x128, .f32⟩
  | 22 => ⟨S1190x128, .f32⟩
  | 23 => ⟨S_, .f32⟩
  | 24 => ⟨S1190x128, .f32⟩
  | 25 => ⟨S1190x128, .f32⟩
  | 26 => ⟨S1190x1x128, .f32⟩
  | 27 => ⟨S_, .i32⟩
  | 28 => ⟨S1190, .i32⟩
  | 29 => ⟨S1190, .i1⟩
  | 30 => ⟨S_, .i32⟩
  | 31 => ⟨S1190, .i32⟩
  | 32 => ⟨S1190, .i32⟩
  | 33 => ⟨S1190, .i32⟩
  | 34 => ⟨S1190x1, .i32⟩
  | 35 => ⟨S1, .i32⟩
  | 36 => ⟨S_, .i32⟩
  | 37 => ⟨S1190x1, .i32⟩
  | 38 => ⟨S1190x1, .i1⟩
  | 39 => ⟨S1x1, .i32⟩
  | 40 => ⟨S1190x1, .i32⟩
  | 41 => ⟨S1190x1, .i1⟩
  | 42 => ⟨S1190x1, .i1⟩
  | 43 => ⟨S_, .i1⟩
  | 44 => ⟨S1190, .i1⟩
  | 45 => ⟨S1190x1, .f32⟩
  | 46 => ⟨S1190x1, .i1⟩
  | 47 => ⟨S_, .f32⟩
  | 48 => ⟨S1190x1, .f32⟩
  | 49 => ⟨S1190x1, .f32⟩
  | 50 => ⟨S1190x128, .f32⟩
  | 51 => ⟨S_, .f32⟩
  | 52 => ⟨S35x128, .f32⟩
  | 53 => ⟨S1190x1, .i32⟩
  | 54 => ⟨S35x128, .f32⟩
  | 55 => ⟨S_, .f32⟩
  | 56 => ⟨S1190, .f32⟩
  | 57 => ⟨S_, .f32⟩
  | 58 => ⟨S35, .f32⟩
  | 59 => ⟨S1190x1, .i32⟩
  | 60 => ⟨S35, .f32⟩
  | 61 => ⟨S_, .f32⟩
  | 62 => ⟨S35, .f32⟩
  | 63 => ⟨S35, .f32⟩
  | 64 => ⟨S35x1, .f32⟩
  | 65 => ⟨S35x128, .f32⟩
  | 66 => ⟨S35x128, .f32⟩
  | 67 => ⟨S35x128, .f32⟩
  | 68 => ⟨S35x128, .f32⟩
  | 69 => ⟨S1x128, .f32⟩
  | 70 => ⟨S35x128, .f32⟩
  | 71 => ⟨S35x128, .f32⟩
  | 72 => ⟨S_, .f32⟩
  | 73 => ⟨S35x128, .f32⟩
  | 74 => ⟨S35x128, .f32⟩
  | 75 => ⟨S1x1190, .i32⟩
  | 76 => ⟨S1190, .i32⟩
  | 77 => ⟨S1x1190, .i32⟩
  | 78 => ⟨S1190, .i32⟩
  | 79 => ⟨S1190x16384, .f32⟩
  | 80 => ⟨S1x16384, .f32⟩
  | 81 => ⟨S1190x16384, .f32⟩
  | 82 => ⟨S1190x16384, .f32⟩
  | 83 => ⟨S_, .f32⟩
  | 84 => ⟨S1190x16384, .f32⟩
  | 85 => ⟨S1190x16384, .f32⟩
  | 86 => ⟨S1190x128x128, .f32⟩
  | 87 => ⟨S_, .i32⟩
  | 88 => ⟨S1190, .i32⟩
  | 89 => ⟨S1190, .i1⟩
  | 90 => ⟨S_, .i32⟩
  | 91 => ⟨S1190, .i32⟩
  | 92 => ⟨S1190, .i32⟩
  | 93 => ⟨S1190, .i32⟩
  | 94 => ⟨S1190x1, .i32⟩
  | 95 => ⟨S1, .i32⟩
  | 96 => ⟨S_, .i32⟩
  | 97 => ⟨S1190x1, .i32⟩
  | 98 => ⟨S1190x1, .i1⟩
  | 99 => ⟨S1x1, .i32⟩
  | 100 => ⟨S1190x1, .i32⟩
  | 101 => ⟨S1190x1, .i1⟩
  | 102 => ⟨S1190x1, .i1⟩
  | 103 => ⟨S_, .i1⟩
  | 104 => ⟨S1190, .i1⟩
  | 105 => ⟨S1190x128, .f32⟩
  | 106 => ⟨S1190x128, .i1⟩
  | 107 => ⟨S_, .f32⟩
  | 108 => ⟨S1190x128, .f32⟩
  | 109 => ⟨S1190x128, .f32⟩
  | 110 => ⟨S1190x128, .f32⟩
  | 111 => ⟨S_, .f32⟩
  | 112 => ⟨S35x128, .f32⟩
  | 113 => ⟨S1190x1, .i32⟩
  | 114 => ⟨S35x128, .f32⟩
  | 115 => ⟨S_, .f32⟩
  | 116 => ⟨S1190, .f32⟩
  | 117 => ⟨S_, .f32⟩
  | 118 => ⟨S35, .f32⟩
  | 119 => ⟨S1190x1, .i32⟩
  | 120 => ⟨S35, .f32⟩
  | 121 => ⟨S_, .f32⟩
  | 122 => ⟨S35, .f32⟩
  | 123 => ⟨S35, .f32⟩
  | 124 => ⟨S35x1, .f32⟩
  | 125 => ⟨S35x128, .f32⟩
  | 126 => ⟨S35x128, .f32⟩
  | 127 => ⟨S35x128, .f32⟩
  | _ => ⟨S35x1, .f32⟩

abbrev hbmTy0_1 (i : Nat) : BufTy := match i % 128 with
  | 0 => ⟨S35x128, .f32⟩
  | 1 => ⟨S1x128, .f32⟩
  | 2 => ⟨S35x128, .f32⟩
  | 3 => ⟨S35x128, .f32⟩
  | 4 => ⟨S_, .f32⟩
  | 5 => ⟨S35x128, .f32⟩
  | 6 => ⟨S35x128, .f32⟩
  | 7 => ⟨S1x1190, .i32⟩
  | 8 => ⟨S1190, .i32⟩
  | 9 => ⟨S1x1190, .i32⟩
  | 10 => ⟨S1190, .i32⟩
  | 11 => ⟨S1190x8192, .f32⟩
  | 12 => ⟨S1x8192, .f32⟩
  | 13 => ⟨S1190x8192, .f32⟩
  | 14 => ⟨S1190x8192, .f32⟩
  | 15 => ⟨S_, .f32⟩
  | 16 => ⟨S1190x8192, .f32⟩
  | 17 => ⟨S1190x8192, .f32⟩
  | 18 => ⟨S1190x128x64, .f32⟩
  | 19 => ⟨S_, .i32⟩
  | 20 => ⟨S1190, .i32⟩
  | 21 => ⟨S1190, .i1⟩
  | 22 => ⟨S_, .i32⟩
  | 23 => ⟨S1190, .i32⟩
  | 24 => ⟨S1190, .i32⟩
  | 25 => ⟨S1190, .i32⟩
  | 26 => ⟨S1190x1, .i32⟩
  | 27 => ⟨S1, .i32⟩
  | 28 => ⟨S_, .i32⟩
  | 29 => ⟨S1190x1, .i32⟩
  | 30 => ⟨S1190x1, .i1⟩
  | 31 => ⟨S1x1, .i32⟩
  | 32 => ⟨S1190x1, .i32⟩
  | 33 => ⟨S1190x1, .i1⟩
  | 34 => ⟨S1190x1, .i1⟩
  | 35 => ⟨S_, .i1⟩
  | 36 => ⟨S1190, .i1⟩
  | 37 => ⟨S1190x128, .f32⟩
  | 38 => ⟨S1190x128, .i1⟩
  | 39 => ⟨S_, .f32⟩
  | 40 => ⟨S1190x128, .f32⟩
  | 41 => ⟨S1190x128, .f32⟩
  | 42 => ⟨S1190x64, .f32⟩
  | 43 => ⟨S_, .f32⟩
  | 44 => ⟨S35x64, .f32⟩
  | 45 => ⟨S1190x1, .i32⟩
  | 46 => ⟨S35x64, .f32⟩
  | 47 => ⟨S_, .f32⟩
  | 48 => ⟨S1190, .f32⟩
  | 49 => ⟨S_, .f32⟩
  | 50 => ⟨S35, .f32⟩
  | 51 => ⟨S1190x1, .i32⟩
  | 52 => ⟨S35, .f32⟩
  | 53 => ⟨S_, .f32⟩
  | 54 => ⟨S35, .f32⟩
  | 55 => ⟨S35, .f32⟩
  | 56 => ⟨S35x1, .f32⟩
  | 57 => ⟨S35x64, .f32⟩
  | 58 => ⟨S35x64, .f32⟩
  | 59 => ⟨S35x64, .f32⟩
  | 60 => ⟨S35x64, .f32⟩
  | 61 => ⟨S1x64, .f32⟩
  | 62 => ⟨S35x64, .f32⟩
  | 63 => ⟨S35x64, .f32⟩
  | 64 => ⟨S_, .f32⟩
  | 65 => ⟨S35x64, .f32⟩
  | 66 => ⟨S35x64, .f32⟩
  | 67 => ⟨S1x35x64, .f32⟩
  | 68 => ⟨S35x35x64, .f32⟩
  | 69 => ⟨S35x35x64, .f32⟩
  | 70 => ⟨S35x35x64, .f32⟩
  | 71 => ⟨S35x35x64, .f32⟩
  | 72 => ⟨S_, .f32⟩
  | 73 => ⟨S35x35, .f32⟩
  | _ => ⟨S35x1, .f32⟩

abbrev hbmTy (i : Nat) : BufTy := match i / 128 with
  | 0 => hbmTy0_0 i
  | 1 => hbmTy0_1 i
  | _ => ⟨S35x1, .f32⟩

abbrev bufTy : (tb : Table) → Fin (tcTables nBuf tb) → BufTy
  | .hbm, ⟨i, _⟩ => hbmTy i
  | _, _ => ⟨S35x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_0 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_2 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_call2_cst : Ref sig .tc := ⟨.hbm, 72, rfl⟩
abbrev main_call2_v0 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_call3_cst : Ref sig .tc := ⟨.hbm, 83, rfl⟩
abbrev main_call3_v0 : Ref sig .tc := ⟨.hbm, 84, rfl⟩
abbrev main_v38 : Ref sig .tc := ⟨.hbm, 85, rfl⟩
abbrev main_v39 : Ref sig .tc := ⟨.hbm, 86, rfl⟩
abbrev main_call4_c : Ref sig .tc := ⟨.hbm, 87, rfl⟩
abbrev main_call4_v0 : Ref sig .tc := ⟨.hbm, 88, rfl⟩
abbrev main_call4_v1 : Ref sig .tc := ⟨.hbm, 89, rfl⟩
abbrev main_call4_c_0 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_c_1 : Ref sig .tc := ⟨.hbm, 95, rfl⟩
abbrev main_call4_c_2 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_c_3 : Ref sig .tc := ⟨.hbm, 103, rfl⟩
abbrev main_call4_v12 : Ref sig .tc := ⟨.hbm, 104, rfl⟩
abbrev main_call4_v13 : Ref sig .tc := ⟨.hbm, 105, rfl⟩
abbrev main_call4_v14 : Ref sig .tc := ⟨.hbm, 106, rfl⟩
abbrev main_call4_cst : Ref sig .tc := ⟨.hbm, 107, rfl⟩
abbrev main_call4_v15 : Ref sig .tc := ⟨.hbm, 108, rfl⟩
abbrev main_v40 : Ref sig .tc := ⟨.hbm, 109, rfl⟩
abbrev main_v41 : Ref sig .tc := ⟨.hbm, 110, rfl⟩
abbrev main_cst_3 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_cst_4 : Ref sig .tc := ⟨.hbm, 115, rfl⟩
abbrev main_v45 : Ref sig .tc := ⟨.hbm, 116, rfl⟩
abbrev main_cst_5 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_cst_6 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_call5_cst : Ref sig .tc := ⟨.hbm, 132, rfl⟩
abbrev main_call5_v0 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_call6_cst : Ref sig .tc := ⟨.hbm, 143, rfl⟩
abbrev main_call6_v0 : Ref sig .tc := ⟨.hbm, 144, rfl⟩
abbrev main_v68 : Ref sig .tc := ⟨.hbm, 145, rfl⟩
abbrev main_v69 : Ref sig .tc := ⟨.hbm, 146, rfl⟩
abbrev main_call7_c : Ref sig .tc := ⟨.hbm, 147, rfl⟩
abbrev main_call7_v0 : Ref sig .tc := ⟨.hbm, 148, rfl⟩
abbrev main_call7_v1 : Ref sig .tc := ⟨.hbm, 149, rfl⟩
abbrev main_call7_c_0 : Ref sig .tc := ⟨.hbm, 150, rfl⟩
abbrev main_call7_v2 : Ref sig .tc := ⟨.hbm, 151, rfl⟩
abbrev main_call7_v3 : Ref sig .tc := ⟨.hbm, 152, rfl⟩
abbrev main_call7_v4 : Ref sig .tc := ⟨.hbm, 153, rfl⟩
abbrev main_call7_v5 : Ref sig .tc := ⟨.hbm, 154, rfl⟩
abbrev main_call7_c_1 : Ref sig .tc := ⟨.hbm, 155, rfl⟩
abbrev main_call7_c_2 : Ref sig .tc := ⟨.hbm, 156, rfl⟩
abbrev main_call7_v6 : Ref sig .tc := ⟨.hbm, 157, rfl⟩
abbrev main_call7_v7 : Ref sig .tc := ⟨.hbm, 158, rfl⟩
abbrev main_call7_v8 : Ref sig .tc := ⟨.hbm, 159, rfl⟩
abbrev main_call7_v9 : Ref sig .tc := ⟨.hbm, 160, rfl⟩
abbrev main_call7_v10 : Ref sig .tc := ⟨.hbm, 161, rfl⟩
abbrev main_call7_v11 : Ref sig .tc := ⟨.hbm, 162, rfl⟩
abbrev main_call7_c_3 : Ref sig .tc := ⟨.hbm, 163, rfl⟩
abbrev main_call7_v12 : Ref sig .tc := ⟨.hbm, 164, rfl⟩
abbrev main_call7_v13 : Ref sig .tc := ⟨.hbm, 165, rfl⟩
abbrev main_call7_v14 : Ref sig .tc := ⟨.hbm, 166, rfl⟩
abbrev main_call7_cst : Ref sig .tc := ⟨.hbm, 167, rfl⟩
abbrev main_call7_v15 : Ref sig .tc := ⟨.hbm, 168, rfl⟩
abbrev main_v70 : Ref sig .tc := ⟨.hbm, 169, rfl⟩
abbrev main_v71 : Ref sig .tc := ⟨.hbm, 170, rfl⟩
abbrev main_cst_7 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_cst_8 : Ref sig .tc := ⟨.hbm, 175, rfl⟩
abbrev main_v75 : Ref sig .tc := ⟨.hbm, 176, rfl⟩
abbrev main_cst_9 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_cst_10 : Ref sig .tc := ⟨.hbm, 181, rfl⟩
abbrev main_v79 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_v83 : Ref sig .tc := ⟨.hbm, 186, rfl⟩
abbrev main_v84 : Ref sig .tc := ⟨.hbm, 187, rfl⟩
abbrev main_v85 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_call8_cst : Ref sig .tc := ⟨.hbm, 192, rfl⟩
abbrev main_call8_v0 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_cst_11 : Ref sig .tc := ⟨.hbm, 200, rfl⟩
abbrev main_v95 : Ref sig .tc := ⟨.hbm, 201, rfl⟩

abbrev nD : Nat := 1
abbrev τ : Topo := Topo.v7x

variable {F : FTy → Type} [FloatOps F]
-- ==== Proof.KernelTerm.lean ====
/-
  The kernel's result array as one term over the arrays that its windows stage: the two counted loops opened trip by
  trip (four trips for the second layer, two for the third), the body's stores and loads gone.
-/
module

public import proofs.«01_k».proof.Proof.Gen.KernelIdeal.Value
public import Idealize.ShloMosaic.Lib.Pipeline.ValueKit
public import Idealize.ShloMosaic.Lib.Pipeline.ReadBack
public import Idealize.ShloMosaic.Lib.WholeRead

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Columns `4096·k … 4096·k + 4095` of the second layer's edge weights. -/
def cols2 (W : S7x16384.Idx → EReal) (k : Fin 4) : S7x4096.Idx → EReal := fun i =>
  W (ix2 (i 0) (⟨k.val * 4096 + (i 1).val, by
    have h : (i 1).val < 4096 := (i 1).isLt
    have := k.isLt
    omega⟩ : Fin 16384))

/-- Columns `4096·k … 4096·k + 4095` of the third layer's edge weights. -/
def cols3 (W : S7x8192.Idx → EReal) (k : Fin 2) : S7x4096.Idx → EReal := fun i =>
  W (ix2 (i 0) (⟨k.val * 4096 + (i 1).val, by
    have h : (i 1).val < 4096 := (i 1).isLt
    have := k.isLt
    omega⟩ : Fin 8192))

/-- The second layer's loop makes 4 trips. -/
theorem trips1 : k0_t1_loop.trips = 4 := by decide
/-- The third layer's loop makes 2 trips. -/
theorem trips2 : k0_t2_loop.trips = 2 := by decide

/-- Trip `k` of the second layer's loop: what it makes of the carried message. -/
def trip1 (v1 : S1280x7.Idx → EReal) (v10 : S1280x35.Idx → EReal) (v36 : S35x128.Idx → EReal) (v37 : S1x128.Idx → EReal)
    (W : S7x16384.Idx → EReal) (k : Fin 4) (acc : S1280x128.Idx → EReal) : S1280x128.Idx → EReal :=
  k0_pay15 (F := Ideal) (k0_pay4 (F := Ideal) v1 k0_pay12 (k0_pay13 (F := Ideal) v10 v36 v37) 0#32 1#32 (k.cast trips1.symm) (cols2 W k))
    (k0_pay5 (F := Ideal) v1 k0_pay12 (k0_pay13 (F := Ideal) v10 v36 v37) 0#32 1#32 (k.cast trips1.symm) acc (cols2 W k))

/-- The second layer's loop, its four trips from the zero message. -/
def loop1 (v1 : S1280x7.Idx → EReal) (v10 : S1280x35.Idx → EReal) (v36 : S35x128.Idx → EReal) (v37 : S1x128.Idx → EReal)
    (W : S7x16384.Idx → EReal) : S1280x128.Idx → EReal :=
  trip1 v1 v10 v36 v37 W 3 (trip1 v1 v10 v36 v37 W 2 (trip1 v1 v10 v36 v37 W 1 (trip1 v1 v10 v36 v37 W 0 (k0_pay14 (F := Ideal)))))

/-- Trip `k` of the third layer's loop. -/
def trip2 (v1 : S1280x7.Idx → EReal) (v87 : S1280x128.Idx → EReal)
    (W : S7x8192.Idx → EReal) (k : Fin 2) (acc : S1280x64.Idx → EReal) : S1280x64.Idx → EReal :=
  k0_pay2 (F := Ideal) v1 v87 (k0_pay20 (F := Ideal)) (iota Kind.tc S128x4096 32 [0] iota_S128x4096_d0_w32)
        (iota Kind.tc S128x4096 32 [1] iota_S128x4096_d1_w32) 64#32 k0_pay21 k0_pay22 1#32 0#32 (k.cast trips2.symm) acc (cols3 W k)

/-- The third layer's loop, its two trips from the zero message. -/
def loop2 (v1 : S1280x7.Idx → EReal) (v87 : S1280x128.Idx → EReal) (W : S7x8192.Idx → EReal) : S1280x64.Idx → EReal :=
  trip2 v1 v87 W 1 (trip2 v1 v87 W 0 (k0_pay1 (F := Ideal)))

/-- A whole-height load of 4096 columns from column `o` of a staged array, read at an element. -/
theorem load_cols {C : Nat} {a : Memref sig .tc .vmem (⟨2, ![7, C]⟩ : Shape) .bf16} (h : a.IsWhole) (X : (⟨2, ![7, C]⟩ : Shape).Idx → EReal)
    (off : Fin 2 → Nat) (inb) (o : Nat) (ho : off = ![0, o]) (i : S7x4096.Idx) (hb : o + (i 1).val < C) :
    View.readAt (Elt Ideal) a.view (Rect.unit (s := (⟨2, ![7, C]⟩ : Shape)) off ![7, 4096] inb).toLoadRect (h.unread (Val := Elt Ideal) X) i
      = X (ix2 (i 0) (⟨o + (i 1).val, hb⟩ : Fin C)) := by
  subst ho
  rw [Memref.IsWhole.readAt_unread]
  refine congrArg X (funext fun a => Fin.ext ?_)
  match a with
  | ⟨0, _⟩ => simp
  | ⟨1, _⟩ => simp

/-- Trip `k` of the second layer's loop, as the run names it. -/
theorem trip1_eq (𝒱 : Variants) (c : Dev nD) (bd : Option 𝒱.V) (a0 h0 a1 h1 a2 h2 a3 h3 a4 h4 a5 h5 a6 h6 a7 h7 a8 h8 a9 h9 a10 h10 a11 h11 a12 h12 a13 h13)
    (v1 : S1280x7.Idx → EReal) (v10 : S1280x35.Idx → EReal) (v15 : S35x1280.Idx → EReal) (v21 : S35x1.Idx → EReal) (v36 : S35x128.Idx → EReal)
    (v37 : S1x128.Idx → EReal) (X : S7x16384.Idx → EReal) (k : Fin 4) (acc : S1280x128.Idx → EReal) :
    tripR_k0_t1 (F := Ideal) 𝒱 c bd a0 h0 a1 h1 a2 h2 a3 h3 a4 h4 a5 h5 a6 h6 a7 h7 a8 h8 a9 h9 a10 h10 a11 h11 a12 h12 a13 h13
        v1 v10 v15 v21 v36 v37 (h7.unread X) (k.cast trips1.symm) acc
      = trip1 v1 v10 v36 v37 X k acc := by
  unfold tripR_k0_t1 trip_k0_t1
  dsimp only
  sl_unfold_words
  have e := fun inb => funext fun i => load_cols h7 X
    (k0_off1 (k.cast trips1.symm)) inb (k.val * 4096) (by fin_cases k <;> decide) i (by
      have h : (i 1).val < 4096 := (i 1).isLt
      have := k.isLt
      omega)
  unfold trip1
  exact congrArg₂ (fun p q => k0_pay15 (F := Ideal) (k0_pay4 (F := Ideal) v1 k0_pay12 (k0_pay13 (F := Ideal) v10 v36 v37) 0#32 1#32 (k.cast trips1.symm) p)
    (k0_pay5 (F := Ideal) v1 k0_pay12 (k0_pay13 (F := Ideal) v10 v36 v37) 0#32 1#32 (k.cast trips1.symm) acc q)) (e _) (e _)

/-- Trip `k` of the third layer's loop, as the run names it. -/
theorem trip2_eq (𝒱 : Variants) (c : Dev nD) (bd : Option 𝒱.V) (a0 h0 a1 h1 a2 h2 a3 h3 a4 h4 a5 h5 a6 h6 a7 h7 a8 h8 a9 h9 a10 h10 a11 h11 a12 h12 a13 h13)
    (v1 : S1280x7.Idx → EReal) (v87 : S1280x128.Idx → EReal) (X : S7x8192.Idx → EReal) (k : Fin 2) (acc : S1280x64.Idx → EReal) :
    tripR_k0_t2 (F := Ideal) 𝒱 c bd a0 h0 a1 h1 a2 h2 a3 h3 a4 h4 a5 h5 a6 h6 a7 h7 a8 h8 a9 h9 a10 h10 a11 h11 a12 h12 a13 h13
        v1 v87 (k0_pay20 (F := Ideal)) (iota Kind.tc S128x4096 32 [0] iota_S128x4096_d0_w32)
        (iota Kind.tc S128x4096 32 [1] iota_S128x4096_d1_w32) 64#32 k0_pay21 k0_pay22 1#32 0#32 (h10.unread X) (k.cast trips2.symm) acc
      = trip2 v1 v87 X k acc := by
  unfold tripR_k0_t2 trip_k0_t2
  dsimp only
  sl_unfold_words
  have e := fun inb => funext fun i => load_cols h10 X
    (k0_off2 (k.cast trips2.symm)) inb (k.val * 4096) (by fin_cases k <;> decide) i (by
      have h : (i 1).val < 4096 := (i 1).isLt
      have := k.isLt
      omega)
  unfold trip2
  exact congrArg (fun p => k0_pay2 (F := Ideal) v1 v87 (k0_pay20 (F := Ideal)) (iota Kind.tc S128x4096 32 [0] iota_S128x4096_d0_w32)
        (iota Kind.tc S128x4096 32 [1] iota_S128x4096_d1_w32) 64#32 k0_pay21 k0_pay22 1#32 0#32 (k.cast trips2.symm) acc p) (e _)

/-- What the second layer's loop yields after its four trips. -/
theorem loop1_eq (𝒱 : Variants) (c : Dev nD) (bd : Option 𝒱.V) (a0 h0 a1 h1 a2 h2 a3 h3 a4 h4 a5 h5 a6 h6 a7 h7 a8 h8 a9 h9 a10 h10 a11 h11 a12 h12 a13 h13)
    (v1 : S1280x7.Idx → EReal) (v10 : S1280x35.Idx → EReal) (v15 : S35x1280.Idx → EReal) (v21 : S35x1.Idx → EReal) (v36 : S35x128.Idx → EReal)
    (v37 : S1x128.Idx → EReal) (X : S7x16384.Idx → EReal) (n : Nat) (hn : n = 4) :
    st_k0_t1 (F := Ideal) 𝒱 c bd a0 h0 a1 h1 a2 h2 a3 h3 a4 h4 a5 h5 a6 h6 a7 h7 a8 h8 a9 h9 a10 h10 a11 h11 a12 h12 a13 h13
        v1 v10 v15 v21 v36 v37 (h7.unread X) k0_pay14 n
      = loop1 v1 v10 v36 v37 X := by
  subst hn
  have s := fun k : Fin 4 => st_k0_t1_succ (F := Ideal) 𝒱 c bd a0 h0 a1 h1 a2 h2 a3 h3 a4 h4 a5 h5 a6 h6 a7 h7 a8 h8 a9 h9 a10 h10 a11 h11 a12 h12 a13 h13
        v1 v10 v15 v21 v36 v37 (h7.unread X) k0_pay14 (k.cast trips1.symm)
  refine (s 3).trans ((trip1_eq ..).trans (congrArg (trip1 v1 v10 v36 v37 X 3) ?_))
  refine (s 2).trans ((trip1_eq ..).trans (congrArg (trip1 v1 v10 v36 v37 X 2) ?_))
  refine (s 1).trans ((trip1_eq ..).trans (congrArg (trip1 v1 v10 v36 v37 X 1) ?_))
  refine (s 0).trans ((trip1_eq ..).trans (congrArg (trip1 v1 v10 v36 v37 X 0) ?_))
  exact st_k0_t1_zero ..

/-- What the third layer's loop yields after its two trips. -/
theorem loop2_eq (𝒱 : Variants) (c : Dev nD) (bd : Option 𝒱.V) (a0 h0 a1 h1 a2 h2 a3 h3 a4 h4 a5 h5 a6 h6 a7 h7 a8 h8 a9 h9 a10 h10 a11 h11 a12 h12 a13 h13)
    (v1 : S1280x7.Idx → EReal) (v87 : S1280x128.Idx → EReal) (X : S7x8192.Idx → EReal) (n : Nat) (hn : n = 2) :
    st_k0_t2 (F := Ideal) 𝒱 c bd a0 h0 a1 h1 a2 h2 a3 h3 a4 h4 a5 h5 a6 h6 a7 h7 a8 h8 a9 h9 a10 h10 a11 h11 a12 h12 a13 h13
        v1 v87 (k0_pay20 (F := Ideal)) (iota Kind.tc S128x4096 32 [0] iota_S128x4096_d0_w32)
        (iota Kind.tc S128x4096 32 [1] iota_S128x4096_d1_w32) 64#32 k0_pay21 k0_pay22 1#32 0#32 (h10.unread X) k0_pay1 n
      = loop2 v1 v87 X := by
  subst hn
  have s := fun k : Fin 2 => st_k0_t2_succ (F := Ideal) 𝒱 c bd a0 h0 a1 h1 a2 h2 a3 h3 a4 h4 a5 h5 a6 h6 a7 h7 a8 h8 a9 h9 a10 h10 a11 h11 a12 h12 a13 h13
        v1 v87 (k0_pay20 (F := Ideal)) (iota Kind.tc S128x4096 32 [0] iota_S128x4096_d0_w32)
        (iota Kind.tc S128x4096 32 [1] iota_S128x4096_d1_w32) 64#32 k0_pay21 k0_pay22 1#32 0#32 (h10.unread X) k0_pay1 (k.cast trips2.symm)
  refine (s 1).trans ((trip2_eq ..).trans (congrArg (trip2 v1 v87 X 1) ?_))
  refine (s 0).trans ((trip2_eq ..).trans (congrArg (trip2 v1 v87 X 0) ?_))
  exact st_k0_t2_zero ..

/-- The first layer before its bias, over the staged arrays. -/
def pre1 (ea : S1280x7.Idx → EReal) (src : S1280x1.Idx → BitVec 32) (dst : S1x1280.Idx → BitVec 32) (x : S35x1.Idx → EReal)
    (W1 : S7x128.Idx → EReal) (r1 : S1x128.Idx → EReal) : S35x128.Idx → EReal :=
  k0_pay10 (F := Ideal) ea src dst x W1 r1

/-- The second layer's mean of messages: the scattered loop result times the reciprocal counts. -/
def agg2 (ea : S1280x7.Idx → EReal) (src : S1280x1.Idx → BitVec 32) (dst : S1x1280.Idx → BitVec 32) (p1 : S35x128.Idx → EReal)
    (b1 : S1x128.Idx → EReal) (W2 : S7x16384.Idx → EReal) : S35x128.Idx → EReal :=
  k0_pay16 (F := Ideal) (k0_pay8 (F := Ideal) dst) (k0_pay9 (F := Ideal) dst)
    (loop1 (k0_pay6 (F := Ideal) ea) (k0_pay7 (F := Ideal) src) p1 b1 W2)

/-- The kernel's result over the staged arrays. -/
def out (ea : S1280x7.Idx → EReal) (src : S1280x1.Idx → BitVec 32) (dst : S1x1280.Idx → BitVec 32) (x : S35x1.Idx → EReal)
    (W1 : S7x128.Idx → EReal) (r1 b1 : S1x128.Idx → EReal) (W2 : S7x16384.Idx → EReal) (r2 : S128x128.Idx → EReal) (b2 : S1x128.Idx → EReal)
    (W3 : S7x8192.Idx → EReal) (r3 : S128x64.Idx → EReal) (b3 : S1x64.Idx → EReal) : S35x35.Idx → EReal :=
  k0_pay3 (F := Ideal) (k0_pay8 (F := Ideal) dst) (k0_pay9 (F := Ideal) dst)
    (k0_pay18 (F := Ideal) (agg2 ea src dst (pre1 ea src dst x W1 r1) b1 W2) (k0_pay17 (F := Ideal) (pre1 ea src dst x W1 r1) b1 r2) b2)
    (loop2 (k0_pay6 (F := Ideal) ea)
      (k0_pay19 (F := Ideal) (k0_pay7 (F := Ideal) src) (agg2 ea src dst (pre1 ea src dst x W1 r1) b1 W2)
        (k0_pay17 (F := Ideal) (pre1 ea src dst x W1 r1) b1 r2) b2) W3) r3 b3

/-- The result array after the run is `out` of the arrays that the windows stage. -/
theorem final (c : Dev nD) : (dats m 0 c).arrAt 13 cfg0.N
    = out (iblk m c 0 t0_0) (iblk m c 1 t0_0) (iblk m c 2 t0_0) (iblk m c 3 t0_0) (iblk m c 4 t0_0) (iblk m c 5 t0_0) (iblk m c 6 t0_0)
      (iblk m c 7 t0_0) (iblk m c 8 t0_0) (iblk m c 9 t0_0) (iblk m c 10 t0_0) (iblk m c 11 t0_0) (iblk m c 12 t0_0) := by
  refine (dats m 0 c).arrAt_eq_of_after_last 13 t0_0 (by decide +kernel) _ fun j => ?_
  blk_simp
  rw [after0_13]
  unfold outsAt0
  frame_out
  simp only [read_unread_whole]
  rw [loop1_eq (hn := by decide)]
  rw [loop2_eq (hn := by decide)]
  rfl

end Cert.KernelIdeal.Value
end
-- ==== Proof.KernelEntry.lean ====
/-
  What the kernel's windows stage, element by element, in terms of the arguments: the host operations before the
  region pad the edge list to 1280 rows and put each bias under its weight matrix.

    * `edges_attr` / `edges_one`: a real edge's row holds its six attributes, then 1;
    * `sources_at`: a real edge's source; `targets_at` / `targets_pad`: a real edge's target, and 35 on the padding;
    * `weightsN_row` / `weightsN_bias`: the weight matrix, then its bias as the seventh row;
    * `biasN_at`, and the arguments staged as they are.
-/
module

public import proofs.«01_k».proof.Proof.KernelTerm
public import Idealize.ShloMosaic.Lib.Pointwise
public import Idealize.ShloMosaic.Lib.Claim
public import Idealize.ShloMosaic.Lib.Tactic.CleanTypes
public import Idealize.ShloMosaic.Lib.Routing.OpsSet
public import Idealize.ShloMosaic.Lib.Routing.OpsPair

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-! ## The four scatters that write a block into a corner, or a column -/

/-- The start pair (0, 0). -/
def corner : S2.Idx → BitVec 32 :=
  concatenate S2 0 [⟨S1, broadcastInDim S1 ![] bcast_S_S1 (constantI S_ 32 0#32)⟩, ⟨S1, broadcastInDim S1 ![] bcast_S_S1 (constantI S_ 32 0#32)⟩]
              concatenates_S1_S1_S2_d0

/-- Both words of the scatters' start index are 0. -/
theorem corner_apply (q : Fin 2) : corner (ix1 q) = 0#32 := by
  unfold corner
  pointwise
  split <;> rfl

/-- Writing a row of 1190 words starts where the index words say, on either axis. -/
theorem start_row (j : S1190.Idx) (idx : S2.Idx → BitVec 32) (q : Fin 2) :
    scatter_S1x1280_S2_S1190_0_0_01_0.start j idx q = (idx (ix1 q)).toInt := by
  unfold ScatterDims.start
  rw [dif_pos (by revert q; decide)]
  refine congrArg (fun i => (idx i).toInt) (funext fun a => Fin.ext ?_)
  match a with
  | ⟨0, _⟩ => fin_cases q <;> rfl

/-- Word `j` of the row is written to row 0. -/
theorem window_row0 (j : S1190.Idx) : scatter_S1x1280_S2_S1190_0_0_01_0.window j 0 = 0 := by
  unfold ScatterDims.window
  rw [dif_neg (by decide)]

/-- Word `j` of the row is written to column `j` of the window. -/
theorem window_row1 (j : S1190.Idx) : scatter_S1x1280_S2_S1190_0_0_01_0.window j 1 = (j 0).val := by
  unfold ScatterDims.window
  rw [dif_pos (by decide)]
  rfl

/-- Writing a column of 1190 words starts where the index words say, on either axis. -/
theorem start_col (j : S1190.Idx) (idx : S2.Idx → BitVec 32) (q : Fin 2) :
    scatter_S1280x1_S2_S1190_0_1_01_0.start j idx q = (idx (ix1 q)).toInt := by
  unfold ScatterDims.start
  rw [dif_pos (by revert q; decide)]
  refine congrArg (fun i => (idx i).toInt) (funext fun a => Fin.ext ?_)
  match a with
  | ⟨0, _⟩ => fin_cases q <;> rfl

/-- Word `j` of the column is written to row `j` of the window. -/
theorem window_col0 (j : S1190.Idx) : scatter_S1280x1_S2_S1190_0_1_01_0.window j 0 = (j 0).val := by
  unfold ScatterDims.window
  rw [dif_pos (by decide)]
  rfl

/-- Word `j` of the column is written to column 0. -/
theorem window_col1 (j : S1190.Idx) : scatter_S1280x1_S2_S1190_0_1_01_0.window j 1 = 0 := by
  unfold ScatterDims.window
  rw [dif_neg (by decide)]

/-- Writing the block of attributes starts where the index words say, on either axis. -/
theorem start_blk (j : S1190x6.Idx) (idx : S2.Idx → BitVec 32) (q : Fin 2) :
    scatter_S1280x7_S2_S1190x6_01_n_01_0.start j idx q = (idx (ix1 q)).toInt := by
  unfold ScatterDims.start
  rw [dif_pos (by revert q; decide)]
  refine congrArg (fun i => (idx i).toInt) (funext fun a => Fin.ext ?_)
  match a with
  | ⟨0, _⟩ => fin_cases q <;> rfl

/-- Entry `j` of the block is written to its own place in the window. -/
theorem window_blk (j : S1190x6.Idx) (q : Fin 2) : scatter_S1280x7_S2_S1190x6_01_n_01_0.window j q = (j q).val := by
  unfold ScatterDims.window
  rw [dif_pos (by revert q; decide)]
  fin_cases q <;> rfl

/-- Writing the column of ones starts at row 0. -/
theorem start_six0 (j : S1280.Idx) (idx : S1.Idx → BitVec 32) : scatter_S1280x7_S1_S1280_0_1_1_0.start j idx 0 = 0 := by
  unfold ScatterDims.start
  rw [dif_neg (by decide)]

/-- Writing the column of ones starts at the column its index word says. -/
theorem start_six1 (j : S1280.Idx) (idx : S1.Idx → BitVec 32) :
    scatter_S1280x7_S1_S1280_0_1_1_0.start j idx 1 = (idx (ix1 (0 : Fin 1))).toInt := by
  unfold ScatterDims.start
  rw [dif_pos (by decide)]
  refine congrArg (fun i => (idx i).toInt) (funext fun a => Fin.ext ?_)
  match a with
  | ⟨0, _⟩ => rfl

/-- Entry `j` of the column of ones is written to row `j`. -/
theorem window_six0 (j : S1280.Idx) : scatter_S1280x7_S1_S1280_0_1_1_0.window j 0 = (j 0).val := by
  unfold ScatterDims.window
  rw [dif_pos (by decide)]
  rfl

/-- Entry `j` of the column of ones has no place of its own along the columns. -/
theorem window_six1 (j : S1280.Idx) : scatter_S1280x7_S1_S1280_0_1_1_0.window j 1 = 0 := by
  unfold ScatterDims.window
  rw [dif_neg (by decide)]

/-- A row of 1190 words written at the head of a row of 1280, read at one of them. -/
theorem scatter_row_hit (x0 : S1x1280.Idx → BitVec 32) (u : S1190.Idx → BitVec 32) (e : Fin 1190) (e' : Fin 1280) (he : e'.val = e.val) (z : Fin 1) :
    Host.scatter scatter_S1x1280_S2_S1190_0_0_01_0 (fun _ b => b) x0 corner u (ix2 z e') = u (ix1 e) := by
  refine Routing.scatter_set_hit _ x0 corner u _ _ (fun k hk => ?_) (ix1 e) ?_
  · have h := (Routing.resultIdx?_eq_some _ _ _ _).1 hk 1
    rw [start_row, window_row1, corner_apply] at h
    refine congrArg u (funext fun a => Fin.ext ?_)
    match a with
    | ⟨0, _⟩ =>
      have h' : (0 : Int) + ((k 0).val : Int) = (e'.val : Int) := h
      show (k 0).val = e.val
      omega
  · rw [Routing.resultIdx?_eq_some]
    intro a
    match a with
    | ⟨0, _⟩ =>
      refine (congrArg₂ (fun p q => p + ((q : ℕ) : Int)) (start_row (ix1 e) corner 0) (window_row0 _)).trans ?_
      rw [corner_apply]
      show (0 : Int) + 0 = (z.val : Int)
      omega
    | ⟨1, _⟩ =>
      refine (congrArg₂ (fun p q => p + ((q : ℕ) : Int)) (start_row (ix1 e) corner 1) (window_row1 _)).trans ?_
      rw [corner_apply]
      show (0 : Int) + (e.val : Int) = (e'.val : Int)
      omega

/-- The same row read past the 1190 words: what was there. -/
theorem scatter_row_miss (x0 : S1x1280.Idx → BitVec 32) (u : S1190.Idx → BitVec 32) (e' : Fin 1280) (he : 1190 ≤ e'.val) (z : Fin 1) :
    Host.scatter scatter_S1x1280_S2_S1190_0_0_01_0 (fun _ b => b) x0 corner u (ix2 z e') = x0 (ix2 z e') := by
  refine Routing.scatter_set_miss _ x0 corner u _ fun k hk => ?_
  have h := (Routing.resultIdx?_eq_some _ _ _ _).1 hk 1
  rw [start_row, window_row1, corner_apply] at h
  have h' : (0 : Int) + ((k 0).val : Int) = (e'.val : Int) := h
  have : (k 0).val < 1190 := (k 0).isLt
  omega

/-- A column of 1190 words written at the head of a column of 1280, read at one of them. -/
theorem scatter_col_hit (x0 : S1280x1.Idx → BitVec 32) (u : S1190.Idx → BitVec 32) (e : Fin 1190) (e' : Fin 1280) (he : e'.val = e.val) (z : Fin 1) :
    Host.scatter scatter_S1280x1_S2_S1190_0_1_01_0 (fun _ b => b) x0 corner u (ix2 e' z) = u (ix1 e) := by
  refine Routing.scatter_set_hit _ x0 corner u _ _ (fun k hk => ?_) (ix1 e) ?_
  · have h := (Routing.resultIdx?_eq_some _ _ _ _).1 hk 0
    rw [start_col, window_col0, corner_apply] at h
    refine congrArg u (funext fun a => Fin.ext ?_)
    match a with
    | ⟨0, _⟩ =>
      have h' : (0 : Int) + ((k 0).val : Int) = (e'.val : Int) := h
      show (k 0).val = e.val
      omega
  · rw [Routing.resultIdx?_eq_some]
    intro a
    match a with
    | ⟨0, _⟩ =>
      refine (congrArg₂ (fun p q => p + ((q : ℕ) : Int)) (start_col (ix1 e) corner 0) (window_col0 _)).trans ?_
      rw [corner_apply]
      show (0 : Int) + (e.val : Int) = (e'.val : Int)
      omega
    | ⟨1, _⟩ =>
      refine (congrArg₂ (fun p q => p + ((q : ℕ) : Int)) (start_col (ix1 e) corner 1) (window_col1 _)).trans ?_
      rw [corner_apply]
      show (0 : Int) + 0 = (z.val : Int)
      omega

/-- The 1190 × 6 block written into the corner of a 1280 × 7 array, read inside the block. -/
theorem scatter_blk_hit (x0 : S1280x7.Idx → EReal) (u : S1190x6.Idx → EReal) (e : Fin 1190) (e' : Fin 1280) (he : e'.val = e.val)
    (k : Fin 6) (k' : Fin 7) (hk : k'.val = k.val) :
    Host.scatter scatter_S1280x7_S2_S1190x6_01_n_01_0 (fun _ b => b) x0 corner u (ix2 e' k') = u (ix2 e k) := by
  have land : ∀ j : S1190x6.Idx, scatter_S1280x7_S2_S1190x6_01_n_01_0.resultIdx? j corner = some (ix2 e' k')
      ↔ ∀ a : Fin 2, (0 : Int) + ((j a).val : Int) = ((ix2 e' k' a).val : Int) := fun j => by
    rw [Routing.resultIdx?_eq_some]
    refine forall_congr' fun a => ?_
    rw [start_blk j corner a, window_blk j a, corner_apply]
    rfl
  refine Routing.scatter_set_hit _ x0 corner u _ _ (fun j hj => ?_) (ix2 e k) ?_
  · have h := (land j).1 hj
    refine congrArg u (funext fun a => Fin.ext ?_)
    match a with
    | ⟨0, _⟩ =>
      have h' : (0 : Int) + ((j 0).val : Int) = (e'.val : Int) := h 0
      show (j 0).val = e.val
      omega
    | ⟨1, _⟩ =>
      have h' : (0 : Int) + ((j 1).val : Int) = (k'.val : Int) := h 1
      show (j 1).val = k.val
      omega
  · rw [land]
    intro a
    match a with
    | ⟨0, _⟩ =>
      show (0 : Int) + (e.val : Int) = (e'.val : Int)
      omega
    | ⟨1, _⟩ =>
      show (0 : Int) + (k.val : Int) = (k'.val : Int)
      omega

/-- Column 6 of a 1280 × 7 array overwritten: read in that column, what was written. -/
theorem scatter_six_hit (x0 : S1280x7.Idx → EReal) (idx : S1.Idx → BitVec 32) (hidx : idx (ix1 (0 : Fin 1)) = 6#32) (u : S1280.Idx → EReal) (e : Fin 1280)
    (k : Fin 7) (hk : k.val = 6) :
    Host.scatter scatter_S1280x7_S1_S1280_0_1_1_0 (fun _ b => b) x0 idx u (ix2 e k) = u (ix1 e) := by
  refine Routing.scatter_set_hit _ x0 idx u _ _ (fun j hj => ?_) (ix1 e) ?_
  · have h := (Routing.resultIdx?_eq_some _ _ _ _).1 hj 0
    rw [start_six0, window_six0] at h
    refine congrArg u (funext fun a => Fin.ext ?_)
    match a with
    | ⟨0, _⟩ =>
      have h' : (0 : Int) + ((j 0).val : Int) = (e.val : Int) := h
      show (j 0).val = e.val
      omega
  · rw [Routing.resultIdx?_eq_some]
    intro a
    match a with
    | ⟨0, _⟩ =>
      refine (congrArg₂ (fun p q => p + ((q : ℕ) : Int)) (start_six0 (ix1 e) idx) (window_six0 _)).trans ?_
      show (0 : Int) + (e.val : Int) = (e.val : Int)
      omega
    | ⟨1, _⟩ =>
      refine (congrArg₂ (fun p q => p + ((q : ℕ) : Int)) (start_six1 (ix1 e) idx) (window_six1 _)).trans ?_
      rw [hidx]
      show (6 : Int) + 0 = (k.val : Int)
      omega

/-- The same array read in another column: what was there. -/
theorem scatter_six_miss (x0 : S1280x7.Idx → EReal) (idx : S1.Idx → BitVec 32) (hidx : idx (ix1 (0 : Fin 1)) = 6#32) (u : S1280.Idx → EReal) (e : Fin 1280)
    (k : Fin 7) (hk : k.val ≠ 6) :
    Host.scatter scatter_S1280x7_S1_S1280_0_1_1_0 (fun _ b => b) x0 idx u (ix2 e k) = x0 (ix2 e k) := by
  refine Routing.scatter_set_miss _ x0 idx u _ fun j hj => ?_
  have h := (Routing.resultIdx?_eq_some _ _ _ _).1 hj 1
  rw [start_six1, window_six1, hidx] at h
  have h' : (6 : Int) + ((0 : ℕ) : Int) = (k.val : Int) := h
  omega

/-! ## A matrix with one row put under it -/

/-- Six rows with a seventh under them, read in the six. -/
theorem under_row {C : ℕ} (A : (⟨2, ![6, C]⟩ : Shape).Idx → EReal) (B : (⟨2, ![1, C]⟩ : Shape).Idx → EReal)
    (h : Shape.Concatenates [(⟨2, ![6, C]⟩ : Shape), ⟨2, ![1, C]⟩] ⟨2, ![7, C]⟩ 0) (k : Fin 6) (k' : Fin 7) (hk : k'.val = k.val) (q : Fin C) :
    concatenate (⟨2, ![7, C]⟩ : Shape) 0 [⟨⟨2, ![6, C]⟩, A⟩, ⟨⟨2, ![1, C]⟩, B⟩] h (ix2 k' q) = A (ix2 k q) := by
  pointwise
  rw [dif_pos (by omega)]
  refine congrArg A (funext fun a => ?_)
  match a with
  | ⟨0, _⟩ => exact Fin.ext hk
  | ⟨1, _⟩ => rfl

/-- Six rows with a seventh under them, read in the seventh. -/
theorem under_last {C : ℕ} (A : (⟨2, ![6, C]⟩ : Shape).Idx → EReal) (B : (⟨2, ![1, C]⟩ : Shape).Idx → EReal)
    (h : Shape.Concatenates [(⟨2, ![6, C]⟩ : Shape), ⟨2, ![1, C]⟩] ⟨2, ![7, C]⟩ 0) (k' : Fin 7) (hk : k'.val = 6) (q : Fin C) :
    concatenate (⟨2, ![7, C]⟩ : Shape) 0 [⟨⟨2, ![6, C]⟩, A⟩, ⟨⟨2, ![1, C]⟩, B⟩] h (ix2 k' q) = B (ix2 (0 : Fin 1) q) := by
  pointwise
  rw [dif_neg (by omega)]
  refine congrArg B (funext fun a => ?_)
  match a with
  | ⟨0, _⟩ => exact Fin.ext (show k'.val - 6 = 0 by omega)
  | ⟨1, _⟩ => rfl

/-- A vector as one row, read in it. -/
theorem as_row {C : ℕ} (B : (⟨1, ![C]⟩ : Shape).Idx → EReal) (h : Shape.ShapeCasts (⟨1, ![C]⟩ : Shape) ⟨2, ![1, C]⟩) (z : Fin 1) (q : Fin C) :
    shapeCast (⟨2, ![1, C]⟩ : Shape) B h (ix2 z q) = B (ix1 q) := by
  refine (shapeCast_addUnit_apply ![C] B h (ix2 z q)).trans ?_
  refine congrArg B (funext fun a => ?_)
  match a with
  | ⟨0, _⟩ => rfl

/-- Over the extended reals a narrowing cast keeps every element. -/
theorem narrow_id {s : Shape} (x : s.Idx → EReal) (h : FTy.bits .bf16 < FTy.bits .f32) (i : s.Idx) :
    truncf FTy.bf16 (φ := FTy.f32) (F := Ideal) x h i = x i := rfl

/-! ## The staged arrays -/

/-- Window 0 is its whole array: its block is the first on both axes. -/
theorem idx0 : win0_0.index t0_0 0 = 0 ∧ win0_0.index t0_0 1 = 0 := by decide +kernel
/-- Window 1 is its whole array: its block is the first on both axes. -/
theorem idx1 : win0_1.index t0_0 0 = 0 ∧ win0_1.index t0_0 1 = 0 := by decide +kernel
/-- Window 2 is its whole array: its block is the first on both axes. -/
theorem idx2 : win0_2.index t0_0 0 = 0 ∧ win0_2.index t0_0 1 = 0 := by decide +kernel
/-- Window 3 is its whole array: its block is the first on both axes. -/
theorem idx3 : win0_3.index t0_0 0 = 0 ∧ win0_3.index t0_0 1 = 0 := by decide +kernel
/-- Window 4 is its whole array: its block is the first on both axes. -/
theorem idx4 : win0_4.index t0_0 0 = 0 ∧ win0_4.index t0_0 1 = 0 := by decide +kernel
/-- Window 5 is its whole array: its block is the first on both axes. -/
theorem idx5 : win0_5.index t0_0 0 = 0 ∧ win0_5.index t0_0 1 = 0 := by decide +kernel
/-- Window 6 is its whole array: its block is the first on both axes. -/
theorem idx6 : win0_6.index t0_0 0 = 0 ∧ win0_6.index t0_0 1 = 0 := by decide +kernel
/-- Window 7 is its whole array: its block is the first on both axes. -/
theorem idx7 : win0_7.index t0_0 0 = 0 ∧ win0_7.index t0_0 1 = 0 := by decide +kernel
/-- Window 8 is its whole array: its block is the first on both axes. -/
theorem idx8 : win0_8.index t0_0 0 = 0 ∧ win0_8.index t0_0 1 = 0 := by decide +kernel
/-- Window 9 is its whole array: its block is the first on both axes. -/
theorem idx9 : win0_9.index t0_0 0 = 0 ∧ win0_9.index t0_0 1 = 0 := by decide +kernel
/-- Window 10 is its whole array: its block is the first on both axes. -/
theorem idx10 : win0_10.index t0_0 0 = 0 ∧ win0_10.index t0_0 1 = 0 := by decide +kernel
/-- Window 11 is its whole array: its block is the first on both axes. -/
theorem idx11 : win0_11.index t0_0 0 = 0 ∧ win0_11.index t0_0 1 = 0 := by decide +kernel
/-- Window 12 is its whole array: its block is the first on both axes. -/
theorem idx12 : win0_12.index t0_0 0 = 0 ∧ win0_12.index t0_0 1 = 0 := by decide +kernel

/-- The edge rows that the kernel stages: zeros, the attributes in the corner, ones in column 6. -/
theorem entry_edges (c : Dev nD) : V m c main_call0_v8
    = truncf FTy.bf16 (φ := FTy.f32) (F := Ideal)
      (Host.scatter scatter_S1280x7_S1_S1280_0_1_1_0 (fun _ b => b)
        (Host.scatter scatter_S1280x7_S2_S1190x6_01_n_01_0 (fun _ b => b)
          (broadcastInDim S1280x7 ![] bcast_S_S1280x7 (constant (F := Ideal) S_ FTy.f32 0#32)) corner
          (m ((c : Thread nD τ).loc main_arg1)))
        (broadcastInDim S1 ![] bcast_S_S1 (constantI S_ 32 6#32))
        (broadcastInDim S1280 ![] bcast_S_S1280 (constant (F := Ideal) S_ FTy.f32 1065353216#32))) bitsLt_bf16_f32 := by
  entry_read
  simp -implicitDefEqProofs only [StableHlo.TRef.toBuf, StableHlo.TRef.ofBuf, cast_cast, cast_eq]
  clean_types
  unfold corner
  rfl

/-- The sources that the kernel stages: 35 everywhere, the edges' sources at the head. -/
theorem entry_sources (c : Dev nD) : V m c main_call0_v15
    = Host.scatter scatter_S1280x1_S2_S1190_0_1_01_0 (fun _ b => b)
      (broadcastInDim S1280x1 ![] bcast_S_S1280x1 (constantI S_ 32 35#32)) corner
      (shapeCast S1190 (extractStridedSlice S1x1190 ![0, 0] (m ((c : Thread nD τ).loc main_arg2)) slices_S2x1190_S1x1190_0_0)
        shapeCasts_S1x1190_S1190) := by
  entry_read
  simp -implicitDefEqProofs only [StableHlo.TRef.toBuf, StableHlo.TRef.ofBuf, cast_cast, cast_eq]
  clean_types
  unfold corner
  rfl

/-- The targets that the kernel stages: 35 everywhere, the edges' targets at the head. -/
theorem entry_targets (c : Dev nD) : V m c main_call0_v22
    = Host.scatter scatter_S1x1280_S2_S1190_0_0_01_0 (fun _ b => b)
      (broadcastInDim S1x1280 ![] bcast_S_S1x1280 (constantI S_ 32 35#32)) corner
      (shapeCast S1190 (extractStridedSlice S1x1190 ![1, 0] (m ((c : Thread nD τ).loc main_arg2)) slices_S2x1190_S1x1190_1_0)
        shapeCasts_S1x1190_S1190) := by
  entry_read
  simp -implicitDefEqProofs only [StableHlo.TRef.toBuf, StableHlo.TRef.ofBuf, cast_cast, cast_eq]
  clean_types
  unfold corner
  rfl

/-- Layer 1's staged weights: the matrix with its bias as a seventh row. -/
theorem entry_weights1 (c : Dev nD) : V m c main_call0_v25
    = truncf FTy.bf16 (φ := FTy.f32) (F := Ideal)
      (concatenate S7x128 0 [⟨S6x128, m ((c : Thread nD τ).loc main_arg3)⟩,
        ⟨S1x128, shapeCast S1x128 (m ((c : Thread nD τ).loc main_arg4)) shapeCasts_S128_S1x128⟩]
        concatenates_S6x128_S1x128_S7x128_d0) bitsLt_bf16_f32 := by
  entry_read
  simp -implicitDefEqProofs only [StableHlo.TRef.toBuf, StableHlo.TRef.ofBuf, cast_cast, cast_eq]
  clean_types
  rfl

/-- Layer 2's staged weights: the matrix with its bias as a seventh row. -/
theorem entry_weights2 (c : Dev nD) : V m c main_call0_v28
    = truncf FTy.bf16 (φ := FTy.f32) (F := Ideal)
      (concatenate S7x16384 0 [⟨S6x16384, m ((c : Thread nD τ).loc main_arg7)⟩,
        ⟨S1x16384, shapeCast S1x16384 (m ((c : Thread nD τ).loc main_arg8)) shapeCasts_S16384_S1x16384⟩]
        concatenates_S6x16384_S1x16384_S7x16384_d0) bitsLt_bf16_f32 := by
  entry_read
  simp -implicitDefEqProofs only [StableHlo.TRef.toBuf, StableHlo.TRef.ofBuf, cast_cast, cast_eq]
  clean_types
  rfl

/-- Layer 3's staged weights: the matrix with its bias as a seventh row. -/
theorem entry_weights3 (c : Dev nD) : V m c main_call0_v31
    = truncf FTy.bf16 (φ := FTy.f32) (F := Ideal)
      (concatenate S7x8192 0 [⟨S6x8192, m ((c : Thread nD τ).loc main_arg11)⟩,
        ⟨S1x8192, shapeCast S1x8192 (m ((c : Thread nD τ).loc main_arg12)) shapeCasts_S8192_S1x8192⟩]
        concatenates_S6x8192_S1x8192_S7x8192_d0) bitsLt_bf16_f32 := by
  entry_read
  simp -implicitDefEqProofs only [StableHlo.TRef.toBuf, StableHlo.TRef.ofBuf, cast_cast, cast_eq]
  clean_types
  rfl

/-- Layer 1's staged node bias: the vector as one row. -/
theorem entry_bias1 (c : Dev nD) : V m c main_call0_v32 = shapeCast S1x128 (m ((c : Thread nD τ).loc main_arg6)) shapeCasts_S128_S1x128 := by
  entry_read
  rfl

/-- Layer 2's staged node bias: the vector as one row. -/
theorem entry_bias2 (c : Dev nD) : V m c main_call0_v33 = shapeCast S1x128 (m ((c : Thread nD τ).loc main_arg10)) shapeCasts_S128_S1x128 := by
  entry_read
  rfl

/-- Layer 3's staged node bias: the vector as one row. -/
theorem entry_bias3 (c : Dev nD) : V m c main_call0_v34 = shapeCast S1x64 (m ((c : Thread nD τ).loc main_arg14)) shapeCasts_S64_S1x64 := by
  entry_read
  rfl

/-! ## The windows, element by element -/

/-- A real edge's staged row holds its attributes. -/
theorem edges_attr (c : Dev nD) (e : Fin 1190) (e' : Fin 1280) (he : e'.val = e.val) (k : Fin 6) (k' : Fin 7) (hk : k'.val = k.val) :
    iblk m c 0 t0_0 (ix2 e' k') = m ((c : Thread nD τ).loc main_arg1) (ix2 e k) := by
  have h : iblk m c 0 t0_0 (ix2 e' k') = V m c main_call0_v8 (ix2 e' k') := by blk_ext [iblk, idx0]
  rw [h, entry_edges]
  rw [narrow_id]
  refine (scatter_six_miss _ _ ?_ _ e' k' (by omega)).trans ?_
  · rfl
  exact scatter_blk_hit _ _ e e' he k k' hk

/-- Every staged edge row ends in 1. -/
theorem edges_one (c : Dev nD) (e' : Fin 1280) (k' : Fin 7) (hk : k'.val = 6) : iblk m c 0 t0_0 (ix2 e' k') = (1 : EReal) := by
  have h : iblk m c 0 t0_0 (ix2 e' k') = V m c main_call0_v8 (ix2 e' k') := by blk_ext [iblk, idx0]
  rw [h, entry_edges]
  rw [narrow_id]
  refine (scatter_six_hit _ _ ?_ _ e' k' hk).trans ?_
  · rfl
  pointwise

/-- A real edge's staged source. -/
theorem sources_at (c : Dev nD) (e : Fin 1190) (e' : Fin 1280) (he : e'.val = e.val) (z : Fin 1) :
    iblk m c 1 t0_0 (ix2 e' z) = m ((c : Thread nD τ).loc main_arg2) (ix2 (0 : Fin 2) e) := by
  have h : iblk m c 1 t0_0 (ix2 e' z) = V m c main_call0_v15 (ix2 e' z) := by blk_ext [iblk, idx1]
  rw [h, entry_sources, scatter_col_hit _ _ e e' he z]
  pointwise

/-- A real edge's staged target. -/
theorem targets_at (c : Dev nD) (e : Fin 1190) (e' : Fin 1280) (he : e'.val = e.val) (z : Fin 1) :
    iblk m c 2 t0_0 (ix2 z e') = m ((c : Thread nD τ).loc main_arg2) (ix2 (1 : Fin 2) e) := by
  have h : iblk m c 2 t0_0 (ix2 z e') = V m c main_call0_v22 (ix2 z e') := by blk_ext [iblk, idx2]
  rw [h, entry_targets, scatter_row_hit _ _ e e' he z]
  pointwise

/-- The padding's staged target is 35, which no node is. -/
theorem targets_pad (c : Dev nD) (e' : Fin 1280) (he : 1190 ≤ e'.val) (z : Fin 1) : iblk m c 2 t0_0 (ix2 z e') = 35#32 := by
  have h : iblk m c 2 t0_0 (ix2 z e') = V m c main_call0_v22 (ix2 z e') := by blk_ext [iblk, idx2]
  rw [h, entry_targets, scatter_row_miss _ _ e' he z]
  rfl

/-- Window 3 stages argument 0 as it is. -/
theorem nodes_at (c : Dev nD) (p : Fin 35) (q : Fin 1) : iblk m c 3 t0_0 (ix2 p q) = m ((c : Thread nD τ).loc main_arg0) (ix2 p q) := by
  have h : iblk m c 3 t0_0 (ix2 p q) = V m c main_arg0 (ix2 p q) := by blk_ext [iblk, idx3]
  rw [h]
  entry_read
  rfl

/-- Window 5 stages argument 5 as it is. -/
theorem root1_at (c : Dev nD) (p : Fin 1) (q : Fin 128) : iblk m c 5 t0_0 (ix2 p q) = m ((c : Thread nD τ).loc main_arg5) (ix2 p q) := by
  have h : iblk m c 5 t0_0 (ix2 p q) = V m c main_arg5 (ix2 p q) := by blk_ext [iblk, idx5]
  rw [h]
  entry_read
  rfl

/-- Window 8 stages argument 9 as it is. -/
theorem root2_at (c : Dev nD) (p : Fin 128) (q : Fin 128) : iblk m c 8 t0_0 (ix2 p q) = m ((c : Thread nD τ).loc main_arg9) (ix2 p q) := by
  have h : iblk m c 8 t0_0 (ix2 p q) = V m c main_arg9 (ix2 p q) := by blk_ext [iblk, idx8]
  rw [h]
  entry_read
  rfl

/-- Window 11 stages argument 13 as it is. -/
theorem root3_at (c : Dev nD) (p : Fin 128) (q : Fin 64) : iblk m c 11 t0_0 (ix2 p q) = m ((c : Thread nD τ).loc main_arg13) (ix2 p q) := by
  have h : iblk m c 11 t0_0 (ix2 p q) = V m c main_arg13 (ix2 p q) := by blk_ext [iblk, idx11]
  rw [h]
  entry_read
  rfl

/-- The first six staged rows of layer 1's weights are the matrix. -/
theorem weights1_row (c : Dev nD) (k : Fin 6) (k' : Fin 7) (hk : k'.val = k.val) (q : Fin 128) :
    iblk m c 4 t0_0 (ix2 k' q) = m ((c : Thread nD τ).loc main_arg3) (ix2 k q) := by
  have h : iblk m c 4 t0_0 (ix2 k' q) = V m c main_call0_v25 (ix2 k' q) := by blk_ext [iblk, idx4]
  rw [h, entry_weights1]
  exact under_row _ _ concatenates_S6x128_S1x128_S7x128_d0 k k' hk q

/-- The seventh staged row of layer 1's weights is the bias. -/
theorem weights1_bias (c : Dev nD) (k' : Fin 7) (hk : k'.val = 6) (q : Fin 128) :
    iblk m c 4 t0_0 (ix2 k' q) = m ((c : Thread nD τ).loc main_arg4) (ix1 q) := by
  have h : iblk m c 4 t0_0 (ix2 k' q) = V m c main_call0_v25 (ix2 k' q) := by blk_ext [iblk, idx4]
  rw [h, entry_weights1]
  exact (under_last _ _ concatenates_S6x128_S1x128_S7x128_d0 k' hk q).trans (as_row _ shapeCasts_S128_S1x128 0 q)

/-- The first six staged rows of layer 2's weights are the matrix. -/
theorem weights2_row (c : Dev nD) (k : Fin 6) (k' : Fin 7) (hk : k'.val = k.val) (q : Fin 16384) :
    iblk m c 7 t0_0 (ix2 k' q) = m ((c : Thread nD τ).loc main_arg7) (ix2 k q) := by
  have h : iblk m c 7 t0_0 (ix2 k' q) = V m c main_call0_v28 (ix2 k' q) := by blk_ext [iblk, idx7]
  rw [h, entry_weights2]
  exact under_row _ _ concatenates_S6x16384_S1x16384_S7x16384_d0 k k' hk q

/-- The seventh staged row of layer 2's weights is the bias. -/
theorem weights2_bias (c : Dev nD) (k' : Fin 7) (hk : k'.val = 6) (q : Fin 16384) :
    iblk m c 7 t0_0 (ix2 k' q) = m ((c : Thread nD τ).loc main_arg8) (ix1 q) := by
  have h : iblk m c 7 t0_0 (ix2 k' q) = V m c main_call0_v28 (ix2 k' q) := by blk_ext [iblk, idx7]
  rw [h, entry_weights2]
  exact (under_last _ _ concatenates_S6x16384_S1x16384_S7x16384_d0 k' hk q).trans (as_row _ shapeCasts_S16384_S1x16384 0 q)

/-- The first six staged rows of layer 3's weights are the matrix. -/
theorem weights3_row (c : Dev nD) (k : Fin 6) (k' : Fin 7) (hk : k'.val = k.val) (q : Fin 8192) :
    iblk m c 10 t0_0 (ix2 k' q) = m ((c : Thread nD τ).loc main_arg11) (ix2 k q) := by
  have h : iblk m c 10 t0_0 (ix2 k' q) = V m c main_call0_v31 (ix2 k' q) := by blk_ext [iblk, idx10]
  rw [h, entry_weights3]
  exact under_row _ _ concatenates_S6x8192_S1x8192_S7x8192_d0 k k' hk q

/-- The seventh staged row of layer 3's weights is the bias. -/
theorem weights3_bias (c : Dev nD) (k' : Fin 7) (hk : k'.val = 6) (q : Fin 8192) :
    iblk m c 10 t0_0 (ix2 k' q) = m ((c : Thread nD τ).loc main_arg12) (ix1 q) := by
  have h : iblk m c 10 t0_0 (ix2 k' q) = V m c main_call0_v31 (ix2 k' q) := by blk_ext [iblk, idx10]
  rw [h, entry_weights3]
  exact (under_last _ _ concatenates_S6x8192_S1x8192_S7x8192_d0 k' hk q).trans (as_row _ shapeCasts_S8192_S1x8192 0 q)

/-- Layer 1's staged node bias, at a column. -/
theorem bias1_at (c : Dev nD) (z : Fin 1) (q : Fin 128) : iblk m c 6 t0_0 (ix2 z q) = m ((c : Thread nD τ).loc main_arg6) (ix1 q) := by
  have h : iblk m c 6 t0_0 (ix2 z q) = V m c main_call0_v32 (ix2 z q) := by blk_ext [iblk, idx6]
  rw [h, entry_bias1]
  pointwise

/-- Layer 2's staged node bias, at a column. -/
theorem bias2_at (c : Dev nD) (z : Fin 1) (q : Fin 128) : iblk m c 9 t0_0 (ix2 z q) = m ((c : Thread nD τ).loc main_arg10) (ix1 q) := by
  have h : iblk m c 9 t0_0 (ix2 z q) = V m c main_call0_v33 (ix2 z q) := by blk_ext [iblk, idx9]
  rw [h, entry_bias2]
  pointwise

/-- Layer 3's staged node bias, at a column. -/
theorem bias3_at (c : Dev nD) (z : Fin 1) (q : Fin 64) : iblk m c 12 t0_0 (ix2 z q) = m ((c : Thread nD τ).loc main_arg14) (ix1 q) := by
  have h : iblk m c 12 t0_0 (ix2 z q) = V m c main_call0_v34 (ix2 z q) := by blk_ext [iblk, idx12]
  rw [h, entry_bias3]
  pointwise

end Cert.KernelIdeal.Value
end
-- ==== Proof.KernelReads.lean ====
/-
  The kernel's payloads read at an index, over the extended reals: the one-hot rows, the reciprocal counts, the two
  halves of the first layer, and the pieces of the other two that lie outside the loops.
-/
module

public import proofs.«01_k».proof.Proof.Gen.KernelIdeal.Skeleton
public import Idealize.ShloMosaic.Lib.Pointwise
public import Idealize.ShloMosaic.PureOps.Ideal.Laws
public import Idealize.ShloMosaic.Lib.ValueIdx

@[expose] public section

set_option maxRecDepth 16384

noncomputable section

namespace Cert.KernelIdeal.Reads

open Cert.KernelIdeal Cert.KernelIdeal.Gen Idealize.ShloMosaic Idealize.ShloMosaic.TcCoe

/-- A comparison of two words, widened and converted: 1 where they are equal and 0 elsewhere. -/
theorem hot (a b : BitVec 32) : FloatOps.sitofp (F := Ideal) FTy.f32 (BitVec.setWidth 32 (IntOp.cmpi CmpIPredicate.eq a b)) = if a = b then (1 : EReal) else 0 := by
  by_cases h : a = b
  · subst h
    rw [if_pos rfl]
    have : IntOp.cmpi CmpIPredicate.eq a a = 1#1 := by simp [IntOp.cmpi]
    rw [this]
    show ((((1#32 : BitVec 32).toInt : ℝ)) : EReal) = 1
    norm_num
  · rw [if_neg h]
    have : IntOp.cmpi CmpIPredicate.eq a b = 0#1 := by
      show BitVec.ofBool (a == b) = 0#1
      rw [beq_eq_false_iff_ne.2 h]
      rfl
    rw [this]
    show ((((0#32 : BitVec 32).toInt : ℝ)) : EReal) = 0
    norm_num

/-- Row `e` of the source one-hot: 1 at the edge's source. -/
theorem pay7_at (src : S1280x1.Idx → BitVec 32) (e : Fin 1280) (n : Fin 35) :
    k0_pay7 (F := Ideal) src (ix2 e n) = if src (ix2 e (0 : Fin 1)) = BitVec.ofNat 32 n.val then (1 : EReal) else 0 := by
  unfold k0_pay7
  pointwise
  exact hot _ _

/-- Column `e` of the target one-hot: 1 at the edge's target. -/
theorem pay8_at (dst : S1x1280.Idx → BitVec 32) (n : Fin 35) (e : Fin 1280) :
    k0_pay8 (F := Ideal) dst (ix2 n e) = if BitVec.ofNat 32 n.val = dst (ix2 (0 : Fin 1) e) then (1 : EReal) else 0 := by
  unfold k0_pay8
  pointwise
  exact hot _ _

/-- The reciprocal of a node's number of incoming edges, at least 1. -/
theorem pay9_at (dst : S1x1280.Idx → BitVec 32) (n : Fin 35) (z : Fin 1) :
    k0_pay9 (F := Ideal) dst (ix2 n z) = Ideal.div 1 (max (∑ e : Fin 1280, k0_pay8 (F := Ideal) dst (ix2 n e)) 1) := by
  unfold k0_pay9
  pointwise

/-- The first layer before its bias. -/
theorem pay10_at (ea : S1280x7.Idx → EReal) (src : S1280x1.Idx → BitVec 32) (dst : S1x1280.Idx → BitVec 32) (x : S35x1.Idx → EReal)
    (W : S7x128.Idx → EReal) (r : S1x128.Idx → EReal) (n : Fin 35) (o : Fin 128) :
    k0_pay10 (F := Ideal) ea src dst x W r (ix2 n o)
      = (∑ k : Fin 1, x (ix2 n k) * r (ix2 k o))
        + (∑ e : Fin 1280, k0_pay8 (F := Ideal) dst (ix2 n e)
            * ((∑ j : Fin 35, k0_pay7 (F := Ideal) src (ix2 e j) * x (ix2 j (0 : Fin 1))) * max (∑ k : Fin 7, ea (ix2 e k) * W (ix2 k o)) 0))
          * k0_pay9 (F := Ideal) dst (ix2 n (0 : Fin 1)) := by
  unfold k0_pay10 k0_pay6
  pointwise

/-- The first layer: its bias added, then the positive part. -/
theorem pay11_at (p : S35x128.Idx → EReal) (b : S1x128.Idx → EReal) (n : Fin 35) (o : Fin 128) :
    k0_pay11 (F := Ideal) p b (ix2 n o) = max (p (ix2 n o) + b (ix2 (0 : Fin 1) o)) 0 := by
  unfold k0_pay11
  pointwise

/-- The first layer's rows gathered by the source one-hot. -/
theorem pay13_at (v10 : S1280x35.Idx → EReal) (p : S35x128.Idx → EReal) (b : S1x128.Idx → EReal) (e : Fin 1280) (i : Fin 128) :
    k0_pay13 (F := Ideal) v10 p b (ix2 e i) = ∑ j : Fin 35, v10 (ix2 e j) * k0_pay11 (F := Ideal) p b (ix2 j i) := by
  unfold k0_pay13
  pointwise

/-- The second layer's messages scattered by the target one-hot, times the reciprocal counts. -/
theorem pay16_at (S : S35x1280.Idx → EReal) (inv : S35x1.Idx → EReal) (msg : S1280x128.Idx → EReal) (n : Fin 35) (o : Fin 128) :
    k0_pay16 (F := Ideal) S inv msg (ix2 n o) = (∑ e : Fin 1280, S (ix2 n e) * msg (ix2 e o)) * inv (ix2 n (0 : Fin 1)) := by
  unfold k0_pay16
  pointwise

/-- The second layer's root term. -/
theorem pay17_at (p : S35x128.Idx → EReal) (b : S1x128.Idx → EReal) (r : S128x128.Idx → EReal) (n : Fin 35) (o : Fin 128) :
    k0_pay17 (F := Ideal) p b r (ix2 n o) = ∑ k : Fin 128, k0_pay11 (F := Ideal) p b (ix2 n k) * r (ix2 k o) := by
  unfold k0_pay17
  pointwise

/-- The second layer. -/
theorem pay18_at (agg root : S35x128.Idx → EReal) (b : S1x128.Idx → EReal) (n : Fin 35) (o : Fin 128) :
    k0_pay18 (F := Ideal) agg root b (ix2 n o) = max (root (ix2 n o) + agg (ix2 n o) + b (ix2 (0 : Fin 1) o)) 0 := by
  unfold k0_pay18
  pointwise

/-- The second layer's rows gathered by the source one-hot. -/
theorem pay19_at (v10 : S1280x35.Idx → EReal) (agg root : S35x128.Idx → EReal) (b : S1x128.Idx → EReal) (e : Fin 1280) (i : Fin 128) :
    k0_pay19 (F := Ideal) v10 agg root b (ix2 e i) = ∑ j : Fin 35, v10 (ix2 e j) * k0_pay18 (F := Ideal) agg root b (ix2 j i) := by
  unfold k0_pay19
  pointwise

/-- The third layer over its messages. -/
def third (S : S35x1280.Idx → EReal) (inv : S35x1.Idx → EReal) (h : S35x128.Idx → EReal) (msg : S1280x64.Idx → EReal) (r : S128x64.Idx → EReal)
    (b : S1x64.Idx → EReal) (n : Fin 35) (o : Fin 64) : EReal :=
  max ((∑ k : Fin 128, h (ix2 n k) * r (ix2 k o)) + (∑ e : Fin 1280, S (ix2 n e) * msg (ix2 e o)) * inv (ix2 n (0 : Fin 1)) + b (ix2 (0 : Fin 1) o)) 0

/-- The result: the L1 distance of every pair of nodes. -/
theorem pay3_at (S : S35x1280.Idx → EReal) (inv : S35x1.Idx → EReal) (h : S35x128.Idx → EReal) (msg : S1280x64.Idx → EReal) (r : S128x64.Idx → EReal)
    (b : S1x64.Idx → EReal) (n n' : Fin 35) :
    k0_pay3 (F := Ideal) S inv h msg r b (ix2 n n')
      = ∑ o : Fin 64, max (third S inv h msg r b n o - third S inv h msg r b n' o) (-(third S inv h msg r b n o - third S inv h msg r b n' o)) := by
  unfold k0_pay3 third
  pointwise
  rfl

/-- Floor division of a column below 4096 by 128, as it is printed. -/
theorem floor128 (c : Fin 4096) :
    Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 128#32 0#32))
              (Scalar.extui (Scalar.cmpi CmpIPredicate.slt 128#32 0#32))))
          (IntOp.cmpi CmpIPredicate.ne (IntOp.remsi ArithUnit.vector (BitVec.ofNat 32 c.val) 128#32) 0#32))
        (IntOp.subi (IntOp.divsi ArithUnit.vector (BitVec.ofNat 32 c.val) 128#32) 1#32)
        (IntOp.divsi ArithUnit.vector (BitVec.ofNat 32 c.val) 128#32)
      = BitVec.ofNat 32 (c.val / 128) := by
  revert c
  decide +kernel

/-- Floor division of a column below 4096 by 64, as it is printed. -/
theorem floor64 (c : Fin 4096) :
    Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi 1#32 0#32))
          (IntOp.cmpi CmpIPredicate.ne (IntOp.remsi ArithUnit.vector (BitVec.ofNat 32 c.val) 64#32) 0#32))
        (IntOp.subi (IntOp.divsi ArithUnit.vector (BitVec.ofNat 32 c.val) 64#32) 1#32)
        (IntOp.divsi ArithUnit.vector (BitVec.ofNat 32 c.val) 64#32)
      = BitVec.ofNat 32 (c.val / 64) := by
  revert c
  decide +kernel

/-- Remainder of a column below 4096 by 64, as it is printed. -/
theorem rem64 (c : Fin 4096) :
    Scalar.select
        (IntOp.andi
          (IntOp.xori
            (IntOp.cmpi CmpIPredicate.slt
              (IntOp.remsi ArithUnit.vector (BitVec.ofNat 32 c.val) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 c.val) (Scalar.select (Scalar.cmpi CmpIPredicate.eq 64#32 0#32) 1#32 64#32)) 0#32))
        (IntOp.addi (IntOp.remsi ArithUnit.vector (BitVec.ofNat 32 c.val) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 c.val) (Scalar.select (Scalar.cmpi CmpIPredicate.eq 64#32 0#32) 1#32 64#32))
      = BitVec.ofNat 32 (c.val % 64) := by
  revert c
  decide +kernel

/-- Small words are equal when their numbers are. -/
theorem word_eq_iff (a b : ℕ) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · exact congrArg _

/-- The selector's test, on numbers: row minus block is the trip's offset. -/
theorem select_iff (r q t : ℕ) (hr : r < 128) (hq : q < 64) (ht : t < 128) :
    BitVec.ofNat 32 r - BitVec.ofNat 32 q = BitVec.ofNat 32 t ↔ r = t + q := by
  have e : BitVec.ofNat 32 (t + q) = BitVec.ofNat 32 t + BitVec.ofNat 32 q := BitVec.ofNat_add t q
  constructor
  · intro h
    refine (word_eq_iff r (t + q) (by omega) (by omega)).1 ?_
    rw [e, ← h, BitVec.sub_add_cancel]
  · intro h
    rw [h, e, BitVec.add_sub_cancel]

/-- Entry `(r, c)` of the second layer's index matrix is the word of its row less that of its column's block. -/
theorem pay12_at (r : Fin 128) (c : Fin 4096) : k0_pay12 (ix2 r c) = BitVec.ofNat 32 r.val - BitVec.ofNat 32 (c.val / 128) := by
  unfold k0_pay12
  pointwise
  exact congrArg (IntOp.subi (BitVec.ofNat 32 r.val)) (floor128 c)

/-- The fold matrix: column `c` of a trip goes to output column `c % 64`. -/
theorem pay20_at (c : Fin 4096) (o : Fin 64) : k0_pay20 (F := Ideal) (ix2 c o) = if c.val % 64 = o.val then (1 : EReal) else 0 := by
  unfold k0_pay20
  pointwise
  refine (hot _ _).trans ?_
  rw [rem64 c]
  exact if_congr (word_eq_iff _ _ (by have := c.isLt; omega) (by have := o.isLt; omega)) rfl rfl

/-- Trip `k` of the second layer starts at row `32 k`. -/
theorem offset1 (k : Fin k0_t1_loop.trips) : Scalar.muli (Scf.iv 0#32 1#32 k.val) 32#32 = BitVec.ofNat 32 (32 * k.val) := by
  revert k
  decide +kernel

/-- Trip `k` of the third layer starts at row `64 k`. -/
theorem offset2 (k : Fin k0_t2_loop.trips) : Scalar.muli (Scf.iv 0#32 1#32 k.val) 64#32 = BitVec.ofNat 32 (64 * k.val) := by
  revert k
  decide +kernel

/-- The second layer's loop makes at most 4 trips. -/
theorem trips1_le : k0_t1_loop.trips ≤ 4 := by decide +kernel
/-- The third layer's loop makes at most 2 trips. -/
theorem trips2_le : k0_t2_loop.trips ≤ 2 := by decide +kernel

/-- One trip of the second layer's loop: the selected rows times that block of generated weights. -/
theorem pay4_at (v1 : S1280x7.Idx → EReal) (v71 : S1280x128.Idx → EReal) (k : Fin k0_t1_loop.trips) (W : S7x4096.Idx → EReal)
    (e : Fin 1280) (c : Fin 4096) :
    k0_pay4 (F := Ideal) v1 k0_pay12 v71 0#32 1#32 k W (ix2 e c)
      = (∑ i : Fin 128, v71 (ix2 e i) * (if i.val = 32 * k.val + c.val / 128 then (1 : EReal) else 0)) * max (∑ j : Fin 7, v1 (ix2 e j) * W (ix2 j c)) 0 := by
  unfold k0_pay4
  pointwise
  refine congrArg (· * _) (Finset.sum_congr rfl fun i _ => congrArg (v71 (ix2 e i) * ·) ((hot _ _).trans ?_))
  rw [offset1 k, pay12_at]
  exact if_congr (select_iff _ _ _ i.isLt (by have := c.isLt; omega) (by have := k.isLt; have := trips1_le; omega)) rfl rfl

/-- One trip of the third layer's loop: the selected rows times that block of generated weights, folded to the output columns. -/
theorem pay2_at (v1 : S1280x7.Idx → EReal) (v87 : S1280x128.Idx → EReal) (fold : S4096x64.Idx → EReal) (k : Fin k0_t2_loop.trips) (acc : S1280x64.Idx → EReal)
    (W : S7x4096.Idx → EReal) (e : Fin 1280) (o : Fin 64) :
    k0_pay2 (F := Ideal) v1 v87 fold (iota Kind.tc S128x4096 32 [0] iota_S128x4096_d0_w32) (iota Kind.tc S128x4096 32 [1] iota_S128x4096_d1_w32) 64#32
        k0_pay21 k0_pay22 1#32 0#32 k acc W (ix2 e o)
      = acc (ix2 e o) + ∑ c : Fin 4096, (∑ i : Fin 128, v87 (ix2 e i) * (if i.val = 64 * k.val + c.val / 64 then (1 : EReal) else 0))
          * max (∑ j : Fin 7, v1 (ix2 e j) * W (ix2 j c)) 0 * fold (ix2 c o) := by
  unfold k0_pay2 k0_pay21 k0_pay22
  pointwise
  refine congrArg (acc (ix2 e o) + ·) (Finset.sum_congr rfl fun c _ => congrArg (· * _) (congrArg (· * _)
    (Finset.sum_congr rfl fun i _ => congrArg (v87 (ix2 e i) * ·) ((hot _ _).trans ?_))))
  rw [offset2 k, floor64 c]
  exact if_congr (select_iff _ _ _ i.isLt (by have := c.isLt; omega) (by have := k.isLt; have := trips2_le; omega)) rfl rfl

/-- The thirty-two slices added to the accumulator, in order. -/
theorem slices_at (v1 : S1280x7.Idx → EReal) (v71 : S1280x128.Idx → EReal) (k : Fin k0_t1_loop.trips) (W : S7x4096.Idx → EReal)
    (acc : S1280x128.Idx → EReal) (p : S1280x4096.Idx → EReal) (hp : k0_pay4 (F := Ideal) v1 k0_pay12 v71 0#32 1#32 k W = p)
    (e : Fin 1280) (o : Fin 128) :
    k0_pay15 (F := Ideal) p (k0_pay5 (F := Ideal) v1 k0_pay12 v71 0#32 1#32 k acc W) (ix2 e o)
      = acc (ix2 e o) + ∑ d : Fin 32, p (ix2 e (⟨d.val * 128 + o.val, by have := d.isLt; have := o.isLt; omega⟩ : Fin 4096)) := by
  have ho := o.isLt
  have hsum : ∑ d : Fin 32, p (ix2 e (⟨d.val * 128 + o.val, by have := d.isLt; omega⟩ : Fin 4096))
      = ∑ d ∈ Finset.range 32, p (ix2 e (⟨(d * 128 + o.val) % 4096, Nat.mod_lt _ (by decide)⟩ : Fin 4096)) := by
    rw [← Fin.sum_univ_eq_sum_range (fun d => p (ix2 e (⟨(d * 128 + o.val) % 4096, Nat.mod_lt _ (by decide)⟩ : Fin 4096)))]
    refine Finset.sum_congr rfl fun d _ => congrArg (fun c => p (ix2 e c)) (Fin.ext ?_)
    have := d.isLt
    exact (Nat.mod_eq_of_lt (by omega)).symm
  rw [hsum]
  unfold k0_pay15 k0_pay5
  rw [hp]
  pointwise
  simp only [Finset.sum_range_succ, Finset.sum_range_zero, zero_add, ← add_assoc]
  repeat' refine congrArg₂ (· + ·) ?_ ?_
  · rfl
  all_goals
    refine congrArg (fun c : Fin 4096 => p (ix2 e c)) (Fin.ext ?_)
    dsimp only
    omega

end Cert.KernelIdeal.Reads
end
-- ==== Proof.KernelLoops.lean ====
/-
  What the two counted loops leave: the second layer's four trips and the third's two add up, over all 128 input
  columns, each input column times its block of generated weights.
-/
module

public import proofs.«01_k».proof.Proof.KernelTerm
public import proofs.«01_k».proof.Proof.KernelReads

@[expose] public section

set_option maxRecDepth 16384

noncomputable section

namespace Cert.KernelIdeal.Value

open Cert.KernelIdeal Cert.KernelIdeal.Gen Cert.KernelIdeal.Reads Idealize.ShloMosaic Idealize.ShloMosaic.TcCoe

/-- Input column `i` of edge `e` times its generated weight for output column `o` (128 output columns). -/
def term1 (v1 : S1280x7.Idx → EReal) (xj : S1280x128.Idx → EReal) (W : S7x16384.Idx → EReal) (e : Fin 1280) (o i : Fin 128) : EReal :=
  xj (ix2 e i) * max (∑ j : Fin 7, v1 (ix2 e j) * W (ix2 j (⟨i.val * 128 + o.val, by have := i.isLt; have := o.isLt; omega⟩ : Fin 16384))) 0

/-- The same with 64 output columns. -/
def term2 (v1 : S1280x7.Idx → EReal) (xj : S1280x128.Idx → EReal) (W : S7x8192.Idx → EReal) (e : Fin 1280) (o : Fin 64) (i : Fin 128) : EReal :=
  xj (ix2 e i) * max (∑ j : Fin 7, v1 (ix2 e j) * W (ix2 j (⟨i.val * 64 + o.val, by have := i.isLt; have := o.isLt; omega⟩ : Fin 8192))) 0

/-- A sum of a row against a one-hot column is the row's element there. -/
theorem pick {N : ℕ} (f : Fin N → EReal) (t : ℕ) (i : Fin N) (hi : i.val = t) : ∑ k : Fin N, f k * (if k.val = t then (1 : EReal) else 0) = f i := by
  rw [Finset.sum_eq_single i]
  · rw [if_pos hi, mul_one]
  · intro k _ hk
    rw [if_neg (fun h => hk (Fin.ext (by omega))), mul_zero]
  · intro h
    exact absurd (Finset.mem_univ i) h

/-- One trip of the second layer's loop adds 32 input columns. -/
theorem trip1_at (v1 : S1280x7.Idx → EReal) (v10 : S1280x35.Idx → EReal) (v36 : S35x128.Idx → EReal) (v37 : S1x128.Idx → EReal)
    (W : S7x16384.Idx → EReal) (k : Fin 4) (acc : S1280x128.Idx → EReal) (e : Fin 1280) (o : Fin 128) :
    trip1 v1 v10 v36 v37 W k acc (ix2 e o)
      = acc (ix2 e o) + ∑ d : Fin 32, term1 v1 (k0_pay13 (F := Ideal) v10 v36 v37) W e o
          (⟨k.val * 32 + d.val, by have := k.isLt; have := d.isLt; omega⟩ : Fin 128) := by
  unfold trip1
  rw [slices_at (hp := rfl)]
  refine congrArg (acc (ix2 e o) + ·) (Finset.sum_congr rfl fun d _ => ?_)
  have hk := k.isLt
  have hd := d.isLt
  have ho := o.isLt
  rw [pay4_at, pick (fun i => k0_pay13 (F := Ideal) v10 v36 v37 (ix2 e i)) _ (⟨k.val * 32 + d.val, by omega⟩ : Fin 128) (by
    show k.val * 32 + d.val = 32 * k.val + (d.val * 128 + o.val) / 128
    omega)]
  unfold term1
  refine congrArg (_ * ·) (congrArg (max · 0) (Finset.sum_congr rfl fun j _ => congrArg (v1 (ix2 e j) * ·) ?_))
  unfold cols2
  refine congrArg W (congrArg₂ ix2 rfl (Fin.ext ?_))
  show k.val * 4096 + (d.val * 128 + o.val) = (k.val * 32 + d.val) * 128 + o.val
  omega

/-- The second layer's loop: the whole message of an edge. -/
theorem loop1_at (v1 : S1280x7.Idx → EReal) (v10 : S1280x35.Idx → EReal) (v36 : S35x128.Idx → EReal) (v37 : S1x128.Idx → EReal)
    (W : S7x16384.Idx → EReal) (e : Fin 1280) (o : Fin 128) :
    loop1 v1 v10 v36 v37 W (ix2 e o) = ∑ i : Fin 128, term1 v1 (k0_pay13 (F := Ideal) v10 v36 v37) W e o i := by
  have z : k0_pay14 (F := Ideal) (ix2 e o) = (0 : EReal) := by
    unfold k0_pay14
    pointwise
  unfold loop1
  rw [trip1_at, trip1_at, trip1_at, trip1_at, z, Fin.sum_univ_tiles 4 32 rfl]
  simp only [Fin.sum_univ_succ (n := 3), Fin.sum_univ_succ (n := 2), Fin.sum_univ_succ (n := 1), Fin.sum_univ_succ (n := 0), Fin.sum_univ_zero]
  rw [zero_add, add_zero, add_assoc, add_assoc]
  rfl

/-- One trip of the third layer's loop adds 64 input columns. -/
theorem trip2_at (v1 : S1280x7.Idx → EReal) (v87 : S1280x128.Idx → EReal) (W : S7x8192.Idx → EReal) (k : Fin 2) (acc : S1280x64.Idx → EReal)
    (e : Fin 1280) (o : Fin 64) :
    trip2 v1 v87 W k acc (ix2 e o)
      = acc (ix2 e o) + ∑ d : Fin 64, term2 v1 v87 W e o (⟨k.val * 64 + d.val, by have := k.isLt; have := d.isLt; omega⟩ : Fin 128) := by
  unfold trip2
  rw [pay2_at]
  refine congrArg (acc (ix2 e o) + ·) ?_
  rw [Fin.sum_univ_tiles 64 64 rfl]
  refine Finset.sum_congr rfl fun d _ => ?_
  have hk := k.isLt
  have hd := d.isLt
  have ho := o.isLt
  refine Eq.trans (Finset.sum_congr rfl fun t _ => ?_) (pick (fun t : Fin 64 => v87 (ix2 e (⟨k.val * 64 + d.val, by omega⟩ : Fin 128))
    * max (∑ j : Fin 7, v1 (ix2 e j) * W (ix2 j (⟨(k.val * 64 + d.val) * 64 + t.val, by have := t.isLt; omega⟩ : Fin 8192))) 0) o.val o rfl)
  have ht := t.isLt
  rw [pay20_at, pick (fun i => v87 (ix2 e i)) _ (⟨k.val * 64 + d.val, by omega⟩ : Fin 128) (by
    show k.val * 64 + d.val = 64 * k.val + (d.val * 64 + t.val) / 64
    omega)]
  refine congrArg₂ (· * ·) (congrArg (_ * ·) (congrArg (max · 0) (Finset.sum_congr rfl fun j _ => congrArg (v1 (ix2 e j) * ·) ?_))) ?_
  · unfold cols3
    refine congrArg W (congrArg₂ ix2 rfl (Fin.ext ?_))
    show k.val * 4096 + (d.val * 64 + t.val) = (k.val * 64 + d.val) * 64 + t.val
    omega
  · refine if_congr ?_ rfl rfl
    show (d.val * 64 + t.val) % 64 = o.val ↔ t.val = o.val
    omega

/-- The third layer's loop: the whole message of an edge. -/
theorem loop2_at (v1 : S1280x7.Idx → EReal) (v87 : S1280x128.Idx → EReal) (W : S7x8192.Idx → EReal) (e : Fin 1280) (o : Fin 64) :
    loop2 v1 v87 W (ix2 e o) = ∑ i : Fin 128, term2 v1 v87 W e o i := by
  have z : k0_pay1 (F := Ideal) (ix2 e o) = (0 : EReal) := by
    unfold k0_pay1
    pointwise
  unfold loop2
  rw [trip2_at, trip2_at, z, Fin.sum_univ_tiles 2 64 rfl]
  simp only [Fin.sum_univ_succ (n := 1), Fin.sum_univ_succ (n := 0), Fin.sum_univ_zero]
  rw [zero_add, add_zero]
  rfl

end Cert.KernelIdeal.Value
end
-- ==== Proof.Spec.lean ====
/-
  The mathematics, once for both programs: a layer of the edge-conditioned convolution, three of them, and the L1
  distances, over the extended reals.
-/
module

public import Idealize.ShloMosaic.Lib.Pointwise
public import Idealize.ShloMosaic.PureOps.Ideal.Laws
public import Idealize.ShloMosaic.Lib.IdealHost

@[expose] public section

noncomputable section

namespace Cert.Spec

open Idealize.ShloMosaic

/-- A matrix of extended reals, as a program's array. -/
abbrev Mat (a b : ℕ) := (⟨2, ![a, b]⟩ : Shape).Idx → EReal

/-- A vector of extended reals, as a program's array. -/
abbrev Row (a : ℕ) := (⟨1, ![a]⟩ : Shape).Idx → EReal

/-- The edge list: row 0 the sources, row 1 the targets. -/
abbrev Edges := (⟨2, ![2, 1190]⟩ : Shape).Idx → BitVec 32

/-- Every source is one of the 35 nodes. -/
def Sources (E : Edges) : Prop := ∀ e : Fin 1190, (E (ix2 (0 : Fin 2) e)).toNat < 35

/-- The source of edge `e`, as a node (the remainder does nothing where `Sources` holds). -/
def src (E : Edges) (e : Fin 1190) : Fin 35 := ⟨(E (ix2 (0 : Fin 2) e)).toNat % 35, Nat.mod_lt _ (by decide)⟩

/-- Under `Sources` the word of edge `e`'s source is the node's number. -/
theorem src_word {E : Edges} (h : Sources E) (e : Fin 1190) : E (ix2 (0 : Fin 2) e) = BitVec.ofNat 32 (src E e).val := by
  refine BitVec.eq_of_toNat_eq ?_
  rw [BitVec.toNat_ofNat]
  have := h e
  show (E (ix2 (0 : Fin 2) e)).toNat = (E (ix2 (0 : Fin 2) e)).toNat % 35 % 2 ^ 32
  omega

/-- Weight `j` that edge `e`'s attributes generate. -/
def gen {C : ℕ} (A : Mat 1190 6) (W : Mat 6 C) (b : Row C) (e : Fin 1190) (j : Fin C) : EReal :=
  max ((∑ k : Fin 6, A (ix2 e k) * W (ix2 k j)) + b (ix1 j)) 0

/-- The sum of a message over the edges into node `n`. -/
def total (E : Edges) (msg : Fin 1190 → EReal) (n : Fin 35) : EReal :=
  ∑ e : Fin 1190, if E (ix2 (1 : Fin 2) e) = BitVec.ofNat 32 n.val then msg e else 0

/-- The number of edges into node `n`. -/
def degree (E : Edges) (n : Fin 35) : EReal := total E (fun _ => 1) n

/-- Row-major column `i·O + o` of a generated `I × O` weight. -/
def flat {I O C : ℕ} (hC : I * O = C) (i : Fin I) (o : Fin O) : Fin C :=
  ⟨i.val * O + o.val, by
    have hi := i.isLt
    have ho := o.isLt
    subst hC
    calc i.val * O + o.val < i.val * O + O := by omega
      _ = (i.val + 1) * O := by rw [Nat.add_mul, Nat.one_mul]
      _ ≤ I * O := Nat.mul_le_mul_right _ (by omega)⟩

/-- Edge `e`'s message, column `o`: its source's row times its generated weight. -/
def message {I O C : ℕ} (hC : I * O = C) (A : Mat 1190 6) (E : Edges) (W : Mat 6 C) (b : Row C) (h : Fin 35 → Fin I → EReal)
    (o : Fin O) (e : Fin 1190) : EReal :=
  ∑ i : Fin I, h (src E e) i * gen A W b e (flat hC i o)

/-- One layer: root term, mean of the incoming messages, bias, positive part. -/
def layer {I O C : ℕ} (hC : I * O = C) (A : Mat 1190 6) (E : Edges) (W : Mat 6 C) (b : Row C) (root : Mat I O) (bias : Row O)
    (h : Fin 35 → Fin I → EReal) (n : Fin 35) (o : Fin O) : EReal :=
  max ((∑ k : Fin I, h n k * root (ix2 k o)) + Ideal.div (total E (message hC A E W b h o) n) (max (degree E n) 1) + bias (ix1 o)) 0

/-- The first layer, from the nodes' one feature. -/
def layer1 (X : Mat 35 1) (A : Mat 1190 6) (E : Edges) (W1 : Mat 6 128) (b1 : Row 128) (r1 : Mat 1 128) (c1 : Row 128) : Fin 35 → Fin 128 → EReal :=
  layer (I := 1) (O := 128) (by decide) A E W1 b1 r1 c1 fun n i => X (ix2 n i)

/-- The second layer, over the first's rows. -/
def layer2 (A : Mat 1190 6) (E : Edges) (W2 : Mat 6 16384) (b2 : Row 16384) (r2 : Mat 128 128) (c2 : Row 128)
    (h : Fin 35 → Fin 128 → EReal) : Fin 35 → Fin 128 → EReal :=
  layer (I := 128) (O := 128) (by decide) A E W2 b2 r2 c2 h

/-- The third layer, over the second's rows. -/
def layer3 (A : Mat 1190 6) (E : Edges) (W3 : Mat 6 8192) (b3 : Row 8192) (r3 : Mat 128 64) (c3 : Row 64)
    (h : Fin 35 → Fin 128 → EReal) : Fin 35 → Fin 64 → EReal :=
  layer (I := 128) (O := 64) (by decide) A E W3 b3 r3 c3 h

/-- The L1 distance of two nodes' rows. -/
def l1 (h : Fin 35 → Fin 64 → EReal) (n n' : Fin 35) : EReal :=
  ∑ o : Fin 64, max (h n o - h n' o) (-(h n o - h n' o))

/-- The size of a difference does not depend on which of the two numbers is subtracted, for numbers that are not negative. -/
theorem l1_comm_term {a b : EReal} (ha : 0 ≤ a) (hb : 0 ≤ b) : max (a - b) (-(a - b)) = max (b - a) (-(b - a)) := by
  induction a using EReal.rec with
  | bot => exact absurd ha (by simp)
  | top =>
    induction b using EReal.rec with
    | bot => exact absurd hb (by simp)
    | top => rfl
    | coe y => simp
  | coe x =>
    induction b using EReal.rec with
    | bot => exact absurd hb (by simp)
    | top => simp
    | coe y =>
      rw [← EReal.coe_sub, ← EReal.coe_sub, ← EReal.coe_neg, ← EReal.coe_neg, neg_sub, neg_sub, max_comm]

/-- The distance is symmetric over rows that are not negative. -/
theorem l1_comm {h : Fin 35 → Fin 64 → EReal} (hh : ∀ n o, 0 ≤ h n o) (n n' : Fin 35) : l1 h n n' = l1 h n' n :=
  Finset.sum_congr rfl fun o _ => l1_comm_term (hh n o) (hh n' o)

/-- A layer's rows are not negative. -/
theorem layer_nonneg {I O C : ℕ} (hC : I * O = C) (A : Mat 1190 6) (E : Edges) (W : Mat 6 C) (b : Row C) (root : Mat I O) (bias : Row O)
    (h : Fin 35 → Fin I → EReal) (n : Fin 35) (o : Fin O) : 0 ≤ layer hC A E W b root bias h n o :=
  le_max_right _ _

end Cert.Spec
end
-- ==== Proof.KernelValue.lean ====
/-
  The kernel's result over its staged arrays is the specification's distance of the three layers: a one-hot product
  gathers a row or adds up the edges into a node, the loops are the messages, the reciprocal is the mean's division.
-/
module

public import proofs.«01_k».proof.Proof.KernelLoops
public import proofs.«01_k».proof.Proof.Spec

@[expose] public section

set_option maxRecDepth 16384

noncomputable section

namespace Cert.KernelIdeal.Value

open Cert.KernelIdeal Cert.KernelIdeal.Gen Cert.KernelIdeal.Reads Cert.Spec Idealize.ShloMosaic Idealize.ShloMosaic.TcCoe

/-- The staged edge arrays hold the attributes `A` (each row ending in 1) and the edge list `E`, padded with target 35. -/
structure Edged (ea : S1280x7.Idx → EReal) (srcs : S1280x1.Idx → BitVec 32) (dsts : S1x1280.Idx → BitVec 32) (A : Mat 1190 6) (E : Edges) : Prop where
  attr : ∀ (e : Fin 1190) (e' : Fin 1280), e'.val = e.val → ∀ (k : Fin 6) (k' : Fin 7), k'.val = k.val → ea (ix2 e' k') = A (ix2 e k)
  one : ∀ (e' : Fin 1280) (k' : Fin 7), k'.val = 6 → ea (ix2 e' k') = 1
  source : ∀ (e : Fin 1190) (e' : Fin 1280), e'.val = e.val → ∀ z : Fin 1, srcs (ix2 e' z) = E (ix2 (0 : Fin 2) e)
  target : ∀ (e : Fin 1190) (e' : Fin 1280), e'.val = e.val → ∀ z : Fin 1, dsts (ix2 z e') = E (ix2 (1 : Fin 2) e)
  pad : ∀ e' : Fin 1280, 1190 ≤ e'.val → ∀ z : Fin 1, dsts (ix2 z e') = 35#32

/-- A staged weight array holds the matrix `W` with the bias `b` under it. -/
structure Weighted {C : ℕ} (Wa : Mat 7 C) (W : Mat 6 C) (b : Row C) : Prop where
  row : ∀ (k : Fin 6) (k' : Fin 7), k'.val = k.val → ∀ q : Fin C, Wa (ix2 k' q) = W (ix2 k q)
  bias : ∀ k' : Fin 7, k'.val = 6 → ∀ q : Fin C, Wa (ix2 k' q) = b (ix1 q)

variable {ea : S1280x7.Idx → EReal} {srcs : S1280x1.Idx → BitVec 32} {dsts : S1x1280.Idx → BitVec 32} {A : Mat 1190 6} {E : Edges}

/-- The seven-term product with the bias row is the six-term product plus the bias. -/
theorem gen_at (hE : Edged ea srcs dsts A E) {C : ℕ} {Wa : Mat 7 C} {W : Mat 6 C} {b : Row C} (hW : Weighted Wa W b)
    (e : Fin 1190) (e' : Fin 1280) (he : e'.val = e.val) (j : Fin C) :
    max (∑ k : Fin 7, ea (ix2 e' k) * Wa (ix2 k j)) 0 = gen A W b e j := by
  unfold gen
  refine congrArg (max · 0) ?_
  rw [Fin.sum_univ_castSucc (n := 6)]
  refine congrArg₂ (· + ·) (Finset.sum_congr rfl fun k _ => ?_) ?_
  · exact congrArg₂ (· * ·) (hE.attr e e' he k k.castSucc rfl) (hW.row k k.castSucc rfl j)
  · exact (congrArg₂ (· * ·) (hE.one e' (Fin.last 6) rfl) (hW.bias (Fin.last 6) rfl j)).trans (one_mul _)

/-- The source one-hot picks the source's row. -/
theorem gather_at (hE : Edged ea srcs dsts A E) (hS : Sources E) (e : Fin 1190) (e' : Fin 1280) (he : e'.val = e.val) (f : Fin 35 → EReal) :
    ∑ j : Fin 35, k0_pay7 (F := Ideal) srcs (ix2 e' j) * f j = f (src E e) := by
  have h : ∀ j : Fin 35, k0_pay7 (F := Ideal) srcs (ix2 e' j) = if j.val = (src E e).val then (1 : EReal) else 0 := fun j => by
    rw [pay7_at, hE.source e e' he 0, src_word hS e]
    refine if_congr ((word_eq_iff _ _ ?_ ?_).trans eq_comm) rfl rfl
    · have := (src E e).isLt
      omega
    · have := j.isLt
      omega
  refine Eq.trans (Finset.sum_congr rfl fun j _ => ?_) (pick f (src E e).val (src E e) rfl)
  rw [h j, mul_comm]

/-- The target one-hot at a real edge. -/
theorem target_at (hE : Edged ea srcs dsts A E) (n : Fin 35) (e : Fin 1190) (e' : Fin 1280) (he : e'.val = e.val) :
    k0_pay8 (F := Ideal) dsts (ix2 n e') = if E (ix2 (1 : Fin 2) e) = BitVec.ofNat 32 n.val then (1 : EReal) else 0 := by
  rw [pay8_at, hE.target e e' he 0]
  exact if_congr eq_comm rfl rfl

/-- The target one-hot on the padding. -/
theorem target_pad (hE : Edged ea srcs dsts A E) (n : Fin 35) (e' : Fin 1280) (he : 1190 ≤ e'.val) : k0_pay8 (F := Ideal) dsts (ix2 n e') = 0 := by
  rw [pay8_at, hE.pad e' he 0]
  refine if_neg fun h => ?_
  have := (word_eq_iff n.val 35 (by have := n.isLt; omega) (by decide)).1 h
  have := n.isLt
  omega

/-- The target one-hot's product adds up the edges into a node. -/
theorem scatter_at (hE : Edged ea srcs dsts A E) (n : Fin 35) (f : Fin 1280 → EReal) (g : Fin 1190 → EReal)
    (hfg : ∀ (e : Fin 1190) (e' : Fin 1280), e'.val = e.val → f e' = g e) :
    ∑ e' : Fin 1280, k0_pay8 (F := Ideal) dsts (ix2 n e') * f e' = total E g n := by
  unfold total
  rw [Fin.sum_univ_add (a := 1190) (b := 90) (fun e' => k0_pay8 (F := Ideal) dsts (ix2 n e') * f e')]
  rw [Finset.sum_eq_zero (s := (Finset.univ : Finset (Fin 90))) fun t _ => ?_, add_zero]
  · refine Finset.sum_congr rfl fun e _ => ?_
    rw [target_at hE n e (Fin.castAdd 90 e) rfl, hfg e (Fin.castAdd 90 e) rfl, ite_mul, one_mul, zero_mul]
  · rw [target_pad hE n (Fin.natAdd 1190 t) (Nat.le_add_right 1190 t.val), zero_mul]

/-- The target one-hot's row sum counts the edges into a node. -/
theorem count_at (hE : Edged ea srcs dsts A E) (n : Fin 35) : ∑ e' : Fin 1280, k0_pay8 (F := Ideal) dsts (ix2 n e') = degree E n := by
  unfold degree
  rw [← scatter_at hE n (fun _ => 1) (fun _ => 1) (fun _ _ _ => rfl)]
  exact Finset.sum_congr rfl fun e' _ => (mul_one _).symm

/-- Times the reciprocal of the count is divided by the count. -/
theorem mean_at (hE : Edged ea srcs dsts A E) (t : EReal) (n : Fin 35) (z : Fin 1) :
    t * k0_pay9 (F := Ideal) dsts (ix2 n z) = Ideal.div t (max (degree E n) 1) := by
  rw [pay9_at, count_at hE]
  refine Ideal.mul_one_div fun h => ?_
  have h1 : (1 : EReal) ≤ max (degree E n) 1 := le_max_right _ _
  rw [h] at h1
  exact absurd h1 (by simp)

/-- The first layer. -/
theorem layer1_at (hE : Edged ea srcs dsts A E) (hS : Sources E) {x : S35x1.Idx → EReal} {Wa : S7x128.Idx → EReal} {r b : S1x128.Idx → EReal}
    {W1 : Mat 6 128} {b1 c1 : Row 128} (hW : Weighted Wa W1 b1) (hb : ∀ q : Fin 128, b (ix2 (0 : Fin 1) q) = c1 (ix1 q)) (n : Fin 35) (o : Fin 128) :
    k0_pay11 (F := Ideal) (pre1 ea srcs dsts x Wa r) b (ix2 n o) = layer1 x A E W1 b1 r c1 n o := by
  rw [pay11_at, hb]
  unfold pre1 layer1 layer
  rw [pay10_at, mean_at hE]
  rw [scatter_at hE n _ (message (I := 1) (O := 128) (by decide) A E W1 b1 (fun n i => x (ix2 n i)) o) fun e e' he => ?_]
  rw [gather_at hE hS e e' he (fun j => x (ix2 j (0 : Fin 1))), gen_at hE hW e e' he]
  unfold message
  rw [Fin.sum_univ_one]
  refine congrArg (x (ix2 (src E e) 0) * ·) (congrArg (gen A W1 b1 e) (Fin.ext ?_))
  show o.val = 0 * 128 + o.val
  omega

/-- The second layer, over the first's rows `h`. -/
theorem layer2_at (hE : Edged ea srcs dsts A E) (hS : Sources E) {p : S35x128.Idx → EReal} {b : S1x128.Idx → EReal} {h : Fin 35 → Fin 128 → EReal}
    (hp : ∀ n o, k0_pay11 (F := Ideal) p b (ix2 n o) = h n o) {Wa : S7x16384.Idx → EReal} {r : S128x128.Idx → EReal} {b' : S1x128.Idx → EReal}
    {W2 : Mat 6 16384} {b2 : Row 16384} {c2 : Row 128} (hW : Weighted Wa W2 b2) (hb : ∀ q : Fin 128, b' (ix2 (0 : Fin 1) q) = c2 (ix1 q))
    (n : Fin 35) (o : Fin 128) :
    k0_pay18 (F := Ideal) (agg2 ea srcs dsts p b Wa) (k0_pay17 (F := Ideal) p b r) b' (ix2 n o) = layer2 A E W2 b2 r c2 h n o := by
  have hx : k0_pay6 (F := Ideal) ea = ea := by
    unfold k0_pay6
    exact shapeCast_self _ _
  rw [pay18_at, hb, pay17_at]
  unfold agg2 layer2 layer
  rw [pay16_at, mean_at hE]
  rw [scatter_at hE n _ (message (I := 128) (O := 128) (by decide) A E W2 b2 h o) fun e e' he => ?_]
  · simp only [hp]
  · rw [loop1_at, hx]
    unfold message
    refine Finset.sum_congr rfl fun i _ => ?_
    unfold term1
    rw [pay13_at, gather_at hE hS e e' he (fun j => k0_pay11 (F := Ideal) p b (ix2 j i)), gen_at hE hW e e' he, hp]
    rfl

/-- The third layer, over the second's rows `h`. -/
theorem layer3_at (hE : Edged ea srcs dsts A E) (hS : Sources E) {agg root : S35x128.Idx → EReal} {b : S1x128.Idx → EReal} {h : Fin 35 → Fin 128 → EReal}
    (hp : ∀ n o, k0_pay18 (F := Ideal) agg root b (ix2 n o) = h n o) {Wa : S7x8192.Idx → EReal} {r : S128x64.Idx → EReal} {b' : S1x64.Idx → EReal}
    {W3 : Mat 6 8192} {b3 : Row 8192} {c3 : Row 64} (hW : Weighted Wa W3 b3) (hb : ∀ q : Fin 64, b' (ix2 (0 : Fin 1) q) = c3 (ix1 q))
    (n : Fin 35) (o : Fin 64) :
    third (k0_pay8 (F := Ideal) dsts) (k0_pay9 (F := Ideal) dsts) (k0_pay18 (F := Ideal) agg root b)
      (loop2 (k0_pay6 (F := Ideal) ea) (k0_pay19 (F := Ideal) (k0_pay7 (F := Ideal) srcs) agg root b) Wa) r b' n o
      = layer3 A E W3 b3 r c3 h n o := by
  have hx : k0_pay6 (F := Ideal) ea = ea := by
    unfold k0_pay6
    exact shapeCast_self _ _
  unfold third layer3 layer
  rw [hb, mean_at hE]
  rw [scatter_at hE n _ (message (I := 128) (O := 64) (by decide) A E W3 b3 h o) fun e e' he => ?_]
  · simp only [hp]
  · rw [loop2_at, hx]
    unfold message
    refine Finset.sum_congr rfl fun i _ => ?_
    unfold term2
    rw [pay19_at, gather_at hE hS e e' he (fun j => k0_pay18 (F := Ideal) agg root b (ix2 j i)), gen_at hE hW e e' he, hp]
    rfl

/-- The kernel's result over its staged arrays: the distances of the third layer's rows. -/
theorem out_at (hE : Edged ea srcs dsts A E) (hS : Sources E) {x : S35x1.Idx → EReal}
    {Wa1 : S7x128.Idx → EReal} {r1 k1 : S1x128.Idx → EReal} {W1 : Mat 6 128} {b1 c1 : Row 128} (hW1 : Weighted Wa1 W1 b1)
    (hk1 : ∀ q : Fin 128, k1 (ix2 (0 : Fin 1) q) = c1 (ix1 q))
    {Wa2 : S7x16384.Idx → EReal} {r2 : S128x128.Idx → EReal} {k2 : S1x128.Idx → EReal} {W2 : Mat 6 16384} {b2 : Row 16384} {c2 : Row 128}
    (hW2 : Weighted Wa2 W2 b2) (hk2 : ∀ q : Fin 128, k2 (ix2 (0 : Fin 1) q) = c2 (ix1 q))
    {Wa3 : S7x8192.Idx → EReal} {r3 : S128x64.Idx → EReal} {k3 : S1x64.Idx → EReal} {W3 : Mat 6 8192} {b3 : Row 8192} {c3 : Row 64}
    (hW3 : Weighted Wa3 W3 b3) (hk3 : ∀ q : Fin 64, k3 (ix2 (0 : Fin 1) q) = c3 (ix1 q)) (n n' : Fin 35) :
    out ea srcs dsts x Wa1 r1 k1 Wa2 r2 k2 Wa3 r3 k3 (ix2 n n')
      = l1 (layer3 A E W3 b3 r3 c3 (layer2 A E W2 b2 r2 c2 (layer1 x A E W1 b1 r1 c1))) n n' := by
  unfold out l1
  rw [pay3_at]
  have h3 := layer3_at hE hS (layer2_at hE hS (layer1_at hE hS (x := x) (r := r1) hW1 hk1) (r := r2) hW2 hk2) (r := r3) hW3 hk3
  exact Finset.sum_congr rfl fun o _ => by rw [h3 n o, h3 n' o]

end Cert.KernelIdeal.Value
end
-- ==== Proof.KernelResult.lean ====
/-
  The kernel's result array after the run, in terms of the arguments.
-/
module

public import proofs.«01_k».proof.Proof.KernelEntry
public import proofs.«01_k».proof.Proof.KernelValue

@[expose] public section

set_option maxRecDepth 16384

noncomputable section

namespace Cert.KernelIdeal.Value

open Cert.KernelIdeal Cert.KernelIdeal.Gen Cert.KernelIdeal.Reads Cert.Spec Idealize.ShloMosaic Idealize.ShloMosaic.TcCoe Idealize.SL.Sem

variable (m : (ℓ : Loc nD τ sig) → Buf (Elt Ideal) ℓ)

/-- The staged edge arrays hold the attributes and the edge list. -/
theorem edged (c : Dev nD) : Edged (iblk m c 0 t0_0) (iblk m c 1 t0_0) (iblk m c 2 t0_0) (m ((c : Thread nD τ).loc main_arg1)) (m ((c : Thread nD τ).loc main_arg2)) where
  attr := edges_attr m c
  one := edges_one m c
  source := sources_at m c
  target := targets_at m c
  pad := targets_pad m c

/-- The first layer's staged weight array holds its weights, then its bias row. -/
theorem weighted1 (c : Dev nD) : Weighted (iblk m c 4 t0_0) (m ((c : Thread nD τ).loc main_arg3)) (m ((c : Thread nD τ).loc main_arg4)) :=
  ⟨weights1_row m c, weights1_bias m c⟩

/-- The second layer's staged weight array holds its weights, then its bias row. -/
theorem weighted2 (c : Dev nD) : Weighted (iblk m c 7 t0_0) (m ((c : Thread nD τ).loc main_arg7)) (m ((c : Thread nD τ).loc main_arg8)) :=
  ⟨weights2_row m c, weights2_bias m c⟩

/-- The third layer's staged weight array holds its weights, then its bias row. -/
theorem weighted3 (c : Dev nD) : Weighted (iblk m c 10 t0_0) (m ((c : Thread nD τ).loc main_arg11)) (m ((c : Thread nD τ).loc main_arg12)) :=
  ⟨weights3_row m c, weights3_bias m c⟩

/-- Two arrays with two axes are equal when they agree at every pair of indices. -/
theorem ext2 {a b : ℕ} {x y : (⟨2, ![a, b]⟩ : Shape).Idx → EReal} (h : ∀ (p : Fin a) (q : Fin b), x (ix2 p q) = y (ix2 p q)) : x = y := by
  funext i
  have e : i = ix2 (i 0) (i 1) := funext fun k => match k with
    | ⟨0, _⟩ => rfl
    | ⟨1, _⟩ => rfl
  rw [e]
  exact h _ _

/-- The result array after the run is the distances of the third layer's rows, the three layers taken over the arguments. -/
theorem result_at (c : Dev nD) (hS : Sources (m ((c : Thread nD τ).loc main_arg2))) (n n' : Fin 35) :
    (dats m 0 c).arrAt 13 cfg0.N (ix2 n n')
      = l1 (layer3 (m ((c : Thread nD τ).loc main_arg1)) (m ((c : Thread nD τ).loc main_arg2)) (m ((c : Thread nD τ).loc main_arg11))
          (m ((c : Thread nD τ).loc main_arg12)) (m ((c : Thread nD τ).loc main_arg13)) (m ((c : Thread nD τ).loc main_arg14))
          (layer2 (m ((c : Thread nD τ).loc main_arg1)) (m ((c : Thread nD τ).loc main_arg2)) (m ((c : Thread nD τ).loc main_arg7))
            (m ((c : Thread nD τ).loc main_arg8)) (m ((c : Thread nD τ).loc main_arg9)) (m ((c : Thread nD τ).loc main_arg10))
            (layer1 (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6))))) n n' := by
  have h0 : iblk m c 3 t0_0 = m ((c : Thread nD τ).loc main_arg0) := ext2 (nodes_at m c)
  have h5 : iblk m c 5 t0_0 = m ((c : Thread nD τ).loc main_arg5) := ext2 (root1_at m c)
  have h9 : iblk m c 8 t0_0 = m ((c : Thread nD τ).loc main_arg9) := ext2 (root2_at m c)
  have h13 : iblk m c 11 t0_0 = m ((c : Thread nD τ).loc main_arg13) := ext2 (root3_at m c)
  rw [final, h0, h5, h9, h13]
  exact out_at (edged m c) hS (weighted1 m c) (bias1_at m c 0) (weighted2 m c) (bias2_at m c 0) (weighted3 m c) (bias3_at m c 0) n n'

end Cert.KernelIdeal.Value
end
-- ==== Proof.RefReads.lean ====
/-
  The reference's index work, read at one index: the table rows it takes for the sources, and the sums it scatters to
  the targets.
-/
module

public import proofs.«01_k».proof.Proof.Gen.ReferenceIdeal.Read
public import proofs.«01_k».proof.Proof.Spec
public import Idealize.ShloMosaic.Lib.Pointwise
public import Idealize.ShloMosaic.Lib.Routing.Ops
public import Idealize.ShloMosaic.Lib.Routing.OpsPair
public import Idealize.ShloMosaic.Lib.ReduceAll

@[expose] public section

set_option maxRecDepth 16384

noncomputable section

namespace Cert.ReferenceIdeal.Reads

open Idealize.ShloMosaic Cert.ReferenceIdeal Cert.ReferenceIdeal.Gen Cert.ReferenceIdeal.Read Cert.Spec

/-- A word is the index `n` of a node, read signed, exactly when it is the word of `n`. -/
theorem toInt_eq_iff (w : BitVec 32) (n : Fin 35) : w.toInt = (n.val : Int) ↔ w = BitVec.ofNat 32 n.val := by
  have hn := n.isLt
  have e : (BitVec.ofNat 32 n.val).toInt = (n.val : Int) := by
    rw [BitVec.toInt_eq_toNat_of_lt] <;> rw [BitVec.toNat_ofNat] <;> omega
  constructor
  · intro h
    exact BitVec.eq_of_toInt_eq (h.trans e.symm)
  · rintro rfl
    exact e

/-- Scattering the rows of `upd` to the rows named by `idx` adds to entry `(n, o)` the entries `(e, o)` of the edges
    whose word is `n`. -/
theorem scatter_rows {C : ℕ} (d : ScatterDims ⟨2, ![35, C]⟩ ⟨2, ![1190, 1]⟩ ⟨2, ![1190, C]⟩) (x : Mat 35 C)
    (idx : IVec ⟨2, ![1190, 1]⟩ 32) (upd : Mat 1190 C)
    (s0 : ∀ e o, d.start (ix2 e o) idx 0 = (idx (ix2 e 0)).toInt) (s1 : ∀ e o, d.start (ix2 e o) idx 1 = 0)
    (w0 : ∀ e o, d.window (ix2 e o) 0 = 0) (w1 : ∀ (e : Fin 1190) (o : Fin C), d.window (ix2 e o) 1 = o.val)
    (n : Fin 35) (o : Fin C) :
    Ideal.hostScatterAdd d x idx upd (ix2 n o)
      = x (ix2 n o) + ∑ e : Fin 1190, if idx (ix2 e 0) = BitVec.ofNat 32 n.val then upd (ix2 e o) else 0 := by
  unfold Ideal.hostScatterAdd
  have key : ∀ (e : Fin 1190) (o' : Fin C), (d.resultIdx? (ix2 e o') idx = some (ix2 n o))
      ↔ (idx (ix2 e 0) = BitVec.ofNat 32 n.val ∧ o' = o) := by
    intro e o'
    rw [Routing.resultIdx?_eq_some, ← toInt_eq_iff]
    constructor
    · intro h
      have h0 := h (0 : Fin 2)
      have h1 := h (1 : Fin 2)
      rw [s0, w0] at h0
      rw [s1, w1] at h1
      have e0 : ((ix2 n o) (0 : Fin 2)).val = n.val := rfl
      have e1 : ((ix2 n o) (1 : Fin 2)).val = o.val := rfl
      rw [e0] at h0
      rw [e1] at h1
      exact ⟨by simpa using h0, Fin.ext (by omega)⟩
    · rintro ⟨h, rfl⟩ a
      match a with
      | ⟨0, _⟩ =>
        show d.start (ix2 e o') idx 0 + (d.window (ix2 e o') 0 : Int) = (n.val : Int)
        rw [s0, w0, h]
        simp
      | ⟨1, _⟩ =>
        show d.start (ix2 e o') idx 1 + (d.window (ix2 e o') 1 : Int) = (o'.val : Int)
        rw [s1, w1]
        simp
  rw [Finset.sum_filter, sum_idx2]
  refine congrArg (x (ix2 n o) + ·) (Finset.sum_congr rfl fun e _ => ?_)
  by_cases h : idx (ix2 e 0) = BitVec.ofNat 32 n.val
  · rw [if_pos h, Finset.sum_eq_single o]
    · exact if_pos ((key e o).2 ⟨h, rfl⟩)
    · exact fun o' _ ne => if_neg fun q => ne ((key e o').1 q).2
    · exact fun q => absurd (Finset.mem_univ o) q
  · rw [if_neg h]
    exact Finset.sum_eq_zero fun o' _ => if_neg fun q => h ((key e o').1 q).1

/-- The same for one number per edge. -/
theorem scatter_ones (x : Row 35) (idx : IVec ⟨2, ![1190, 1]⟩ 32) (upd : Row 1190) (n : Fin 35) :
    Ideal.hostScatterAdd scatter_S35_S1190x1_S1190_n_0_0_1 x idx upd (ix1 n)
      = x (ix1 n) + ∑ e : Fin 1190, if idx (ix2 e 0) = BitVec.ofNat 32 n.val then upd (ix1 e) else 0 := by
  unfold Ideal.hostScatterAdd
  have s0 : ∀ e : Fin 1190, scatter_S35_S1190x1_S1190_n_0_0_1.start (ix1 e) idx (0 : Fin 1) = (idx (ix2 e 0)).toInt := by
    intro e
    unfold ScatterDims.start
    rw [dif_pos (by decide)]
    refine congrArg (fun i => (idx i).toInt) (funext fun a => Fin.ext ?_)
    match a with
    | ⟨0, _⟩ => rfl
    | ⟨1, _⟩ => rfl
  have w0 : ∀ e : Fin 1190, scatter_S35_S1190x1_S1190_n_0_0_1.window (ix1 e) (0 : Fin 1) = 0 := by
    intro e
    unfold ScatterDims.window
    rw [dif_neg (by decide)]
  have key : ∀ e : Fin 1190, (scatter_S35_S1190x1_S1190_n_0_0_1.resultIdx? (ix1 e) idx = some (ix1 n))
      ↔ idx (ix2 e 0) = BitVec.ofNat 32 n.val := by
    intro e
    rw [Routing.resultIdx?_eq_some, ← toInt_eq_iff]
    have e0 : ((ix1 n) (0 : Fin 1)).val = n.val := rfl
    constructor
    · intro h
      have h0 := h (0 : Fin 1)
      rw [s0, w0, e0] at h0
      simpa using h0
    · intro h a
      match a with
      | ⟨0, _⟩ =>
        show scatter_S35_S1190x1_S1190_n_0_0_1.start (ix1 e) idx (0 : Fin 1)
          + (scatter_S35_S1190x1_S1190_n_0_0_1.window (ix1 e) (0 : Fin 1) : Int) = (n.val : Int)
        rw [s0, w0, h]
        simp
  rw [Finset.sum_filter, sum_idx1]
  refine congrArg (x (ix1 n) + ·) (Finset.sum_congr rfl fun e _ => ?_)
  exact if_congr (key e) rfl rfl

/-- Scattering 128 columns: `scatter_rows` at the reference's dimension numbers. -/
theorem scatter_128 (x : Mat 35 128) (idx : IVec ⟨2, ![1190, 1]⟩ 32) (upd : Mat 1190 128) (n : Fin 35) (o : Fin 128) :
    Host.scatterAdd (F := Ideal) (φ := .f32) scatter_S35x128_S1190x1_S1190x128_1_0_0_1 x idx upd (ix2 n o)
      = x (ix2 n o) + ∑ e : Fin 1190, if idx (ix2 e 0) = BitVec.ofNat 32 n.val then upd (ix2 e o) else 0 := by
  refine scatter_rows scatter_S35x128_S1190x1_S1190x128_1_0_0_1 x idx upd ?_ ?_ ?_ ?_ n o
  · intro e o
    unfold ScatterDims.start
    rw [dif_pos (by decide)]
    refine congrArg (fun i => (idx i).toInt) (funext fun a => Fin.ext ?_)
    match a with
    | ⟨0, _⟩ => rfl
    | ⟨1, _⟩ => rfl
  · intro e o
    unfold ScatterDims.start
    rw [dif_neg (by decide)]
  · intro e o
    unfold ScatterDims.window
    rw [dif_neg (by decide)]
  · intro e o
    unfold ScatterDims.window
    rw [dif_pos (by decide)]
    rfl

/-- Scattering 64 columns. -/
theorem scatter_64 (x : Mat 35 64) (idx : IVec ⟨2, ![1190, 1]⟩ 32) (upd : Mat 1190 64) (n : Fin 35) (o : Fin 64) :
    Host.scatterAdd (F := Ideal) (φ := .f32) scatter_S35x64_S1190x1_S1190x64_1_0_0_1 x idx upd (ix2 n o)
      = x (ix2 n o) + ∑ e : Fin 1190, if idx (ix2 e 0) = BitVec.ofNat 32 n.val then upd (ix2 e o) else 0 := by
  refine scatter_rows scatter_S35x64_S1190x1_S1190x64_1_0_0_1 x idx upd ?_ ?_ ?_ ?_ n o
  · intro e o
    unfold ScatterDims.start
    rw [dif_pos (by decide)]
    refine congrArg (fun i => (idx i).toInt) (funext fun a => Fin.ext ?_)
    match a with
    | ⟨0, _⟩ => rfl
    | ⟨1, _⟩ => rfl
  · intro e o
    unfold ScatterDims.start
    rw [dif_neg (by decide)]
  · intro e o
    unfold ScatterDims.window
    rw [dif_neg (by decide)]
  · intro e o
    unfold ScatterDims.window
    rw [dif_pos (by decide)]
    rfl

variable (x2 : (⟨S2x1190, .i32⟩ : BufTy).Contents (Elt Ideal))

/-- The targets, as the reference lays them out for a scatter. -/
theorem targets_at (e : Fin 1190) : val_main_v13 (F := Ideal) x2 (ix2 e 0) = x2 (ix2 1 e) := by
  unfold val_main_v13 val_main_v3 val_main_v2
  pointwise

/-- The sources. -/
theorem sources_at (e : Fin 1190) : val_main_v1 (F := Ideal) x2 (ix1 e) = x2 (ix2 0 e) := by
  unfold val_main_v1 val_main_v0
  pointwise

/-- A source below 35 is not wrapped. -/
theorem wrapped_at (h : Sources x2) (e : Fin 1190) :
    val_main_call1_v5 (F := Ideal) x2 (ix2 e 0) = BitVec.ofNat 32 (src x2 e).val := by
  have hs : (x2 (ix2 0 e)).toNat < 2 ^ (32 - 1) := lt_trans (h e) (by norm_num)
  have q : val_main_call1_v5 (F := Ideal) x2 (ix2 e 0)
      = Scalar.select (IntOp.cmpi .slt (val_main_v1 (F := Ideal) x2 (ix1 e)) 0#32)
          (IntOp.addi (val_main_v1 (F := Ideal) x2 (ix1 e)) 35#32) (val_main_v1 (F := Ideal) x2 (ix1 e)) := by
    unfold val_main_call1_v5 val_main_call1_v4 val_main_call1_v3 val_main_call1_v2 val_main_call1_v1 val_main_call1_v0
      val_main_call1_c val_main_call1_c_0
    pointwise
  rw [q, sources_at, Routing.wrap_of_lt _ _ hs, src_word h]

/-- Every source passes the reference's range test. -/
theorem mask_at (h : Sources x2) (e : Fin 1190) : val_main_call1_v12 (F := Ideal) x2 (ix1 e) = 1#1 := by
  unfold val_main_call1_v12
  refine Host.reduce_andi_one _ _ _ _ _ rfl fun i => ?_
  obtain ⟨a, b, rfl⟩ : ∃ (a : Fin 1190) (b : Fin 1), i = ix2 a b := ⟨i 0, i 1, (ix2_eta i).symm⟩
  obtain rfl : b = 0 := Subsingleton.elim _ _
  have q : val_main_call1_v11 (F := Ideal) x2 (ix2 a 0)
      = IntOp.andi (IntOp.cmpi .sge (val_main_call1_v5 (F := Ideal) x2 (ix2 a 0)) 0#32)
          (IntOp.cmpi .sle (val_main_call1_v5 (F := Ideal) x2 (ix2 a 0)) 34#32) := by
    unfold val_main_call1_v11 val_main_call1_v10 val_main_call1_v9 val_main_call1_v8 val_main_call1_v7 val_main_call1_v6
      val_main_call1_c_1 val_main_call1_c_2
    pointwise
  have hb := (src x2 a).isLt
  rw [q, wrapped_at x2 h, WordCmp.cmpi_sge_ofNat (by omega) (by norm_num),
    WordCmp.cmpi_sle_ofNat (by omega) (by norm_num), decide_eq_true (Nat.zero_le _), decide_eq_true (by omega)]
  rfl

/-- The row of the one-column table that layer 1 takes for an edge. -/
theorem take1_at (h : Sources x2) (x0 : (⟨S35x1, .f32⟩ : BufTy).Contents (Elt Ideal)) (e : Fin 1190) (k : Fin 1) :
    val_main_v10 (F := Ideal) x0 x2 (ix2 e k) = x0 (ix2 (src x2 e) k) := by
  have q : val_main_v10 (F := Ideal) x0 x2 (ix2 e k)
      = Scalar.select (val_main_call1_v12 (F := Ideal) x2 (ix1 e)) (val_main_call1_v13 (F := Ideal) x0 x2 (ix2 e k))
          (val_main_call1_v15 (F := Ideal) (ix2 e k)) := by
    unfold val_main_v10 val_main_call1_v14
    pointwise
  rw [q, mask_at x2 h]
  unfold val_main_call1_v13
  exact Routing.gather_row gather_S35x1_S1190x1_S1190x1_1_0_n_n_0_1_11 rfl rfl rfl rfl rfl x0 _ e k (src x2 e)
    (wrapped_at x2 h e) (by norm_num)

/-- The row of a 128-column table that layers 2 and 3 take for an edge. -/
theorem gather_128 (h : Sources x2) (x : Mat 35 128) (e : Fin 1190) (k : Fin 128) :
    Host.gather gather_S35x128_S1190x1_S1190x128_1_0_n_n_0_1_1128 x (val_main_call1_v5 (F := Ideal) x2) (ix2 e k)
      = x (ix2 (src x2 e) k) :=
  Routing.gather_row gather_S35x128_S1190x1_S1190x128_1_0_n_n_0_1_1128 rfl rfl rfl rfl rfl x _ e k (src x2 e)
    (wrapped_at x2 h e) (by norm_num)

/-- The number of edges into a node. -/
theorem degree_at (n : Fin 35) : val_main_v18 (F := Ideal) x2 (ix1 n) = degree x2 n := by
  have q : val_main_v18 (F := Ideal) x2 (ix1 n) = val_main_v16 (F := Ideal) (ix1 n) + ∑ e : Fin 1190,
      if val_main_v17 (F := Ideal) x2 (ix2 e 0) = BitVec.ofNat 32 n.val then val_main_v15 (F := Ideal) (ix1 e) else 0 :=
    scatter_ones _ _ _ n
  have z : val_main_v16 (F := Ideal) (ix1 n) = 0 := by
    unfold val_main_v16 val_main_cst_1
    pointwise
  have o : ∀ e : Fin 1190, val_main_v15 (F := Ideal) (ix1 e) = 1 := by
    intro e
    unfold val_main_v15 val_main_cst_0
    pointwise
  rw [q, z, zero_add]
  unfold degree total
  refine Finset.sum_congr rfl fun e _ => ?_
  rw [o, show val_main_v17 (F := Ideal) x2 (ix2 e 0) = x2 (ix2 1 e) from targets_at x2 e]

end Cert.ReferenceIdeal.Reads
-- ==== Proof.RefValue.lean ====
/-
  The reference's three layers and its distances, as the mathematics of `Spec`.
-/
module

public import proofs.«01_k».proof.Proof.RefReads

@[expose] public section

set_option maxRecDepth 16384

noncomputable section

namespace Cert.ReferenceIdeal.Reads

open Idealize.ShloMosaic Cert.ReferenceIdeal Cert.ReferenceIdeal.Gen Cert.ReferenceIdeal.Read Cert.Spec

variable (x0 : (⟨S35x1, .f32⟩ : BufTy).Contents (Elt Ideal)) (x1 : (⟨S1190x6, .f32⟩ : BufTy).Contents (Elt Ideal)) (x2 : (⟨S2x1190, .i32⟩ : BufTy).Contents (Elt Ideal))
  (x3 : (⟨S6x128, .f32⟩ : BufTy).Contents (Elt Ideal))  (x4 : (⟨S128, .f32⟩ : BufTy).Contents (Elt Ideal))  (x5 : (⟨S1x128, .f32⟩ : BufTy).Contents (Elt Ideal))
  (x6 : (⟨S128, .f32⟩ : BufTy).Contents (Elt Ideal))  (x7 : (⟨S6x16384, .f32⟩ : BufTy).Contents (Elt Ideal))  (x8 : (⟨S16384, .f32⟩ : BufTy).Contents (Elt Ideal))
  (x9 : (⟨S128x128, .f32⟩ : BufTy).Contents (Elt Ideal))  (x10 : (⟨S128, .f32⟩ : BufTy).Contents (Elt Ideal))  (x11 : (⟨S6x8192, .f32⟩ : BufTy).Contents (Elt Ideal))
  (x12 : (⟨S8192, .f32⟩ : BufTy).Contents (Elt Ideal))  (x13 : (⟨S128x64, .f32⟩ : BufTy).Contents (Elt Ideal))  (x14 : (⟨S64, .f32⟩ : BufTy).Contents (Elt Ideal))

/-- The weights the first layer generates. -/
theorem gen1_at (e : Fin 1190) (j : Fin 128) :
    val_main_v8 (F := Ideal) x1 x3 x4 (ix2 e j) = gen x1 x3 x4 e j := by
  unfold gen val_main_v8 val_main_v7 val_main_v6 val_main_v5 val_main_v4 val_main_call0_v0 val_main_call0_cst
  pointwise

/-- The same weights, laid out as one matrix per edge. -/
theorem weight1_at (hC : 1 * 128 = 128) (e : Fin 1190) (i : Fin 1) (o : Fin 128) :
    val_main_v9 (F := Ideal) x1 x3 x4 (ix3 e i o) = gen x1 x3 x4 e (flat hC i o) := by
  rw [val_main_v9_apply, ← gen1_at]
  have he := e.isLt
  have hi := i.isLt
  have ho := o.isLt
  refine congrArg (val_main_v8 (F := Ideal) x1 x3 x4) (funext fun a => Fin.ext ?_)
  match a with
  | ⟨0, _⟩ =>
    show ((e.val * 1 + i.val) * 128 + o.val) / 128 = e.val
    omega
  | ⟨1, _⟩ =>
    show ((e.val * 1 + i.val) * 128 + o.val) % 128 = i.val * 128 + o.val
    omega

/-- The first layer's messages. -/
theorem message1_at (hC : 1 * 128 = 128) (h : Sources x2) (e : Fin 1190) (o : Fin 128) :
    val_main_v11 (F := Ideal) x0 x1 x2 x3 x4 (ix2 e o)
      = message hC x1 x2 x3 x4 (fun n i => x0 (ix2 n i)) o e := by
  rw [val_main_v11_apply]
  unfold message
  refine Finset.sum_congr rfl fun i _ => ?_
  beta_reduce
  rw [← take1_at x2 h x0 e i, ← weight1_at]
  refine congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl
    | ⟨2, _⟩ => rfl

/-- The first layer's sums of messages. -/
theorem total1_at (hC : 1 * 128 = 128) (h : Sources x2) (n : Fin 35) (o : Fin 128) :
    val_main_v14 (F := Ideal) x0 x1 x2 x3 x4 (ix2 n o)
      = total x2 (message hC x1 x2 x3 x4 (fun n i => x0 (ix2 n i)) o) n := by
  have q : val_main_v14 (F := Ideal) x0 x1 x2 x3 x4 (ix2 n o) = val_main_v12 (F := Ideal) (ix2 n o)
      + ∑ e : Fin 1190, if val_main_v13 (F := Ideal) x2 (ix2 e 0) = BitVec.ofNat 32 n.val
          then val_main_v11 (F := Ideal) x0 x1 x2 x3 x4 (ix2 e o) else 0 :=
    scatter_128 _ _ _ n o
  have z : val_main_v12 (F := Ideal) (ix2 n o) = 0 := by
    unfold val_main_v12 val_main_cst
    pointwise
  rw [q, z, zero_add]
  unfold total
  refine Finset.sum_congr rfl fun e _ => ?_
  rw [show val_main_v13 (F := Ideal) x2 (ix2 e 0) = x2 (ix2 1 e) from targets_at x2 e, message1_at (hC := hC) (h := h)]

/-- The first layer's rows. -/
theorem rows1_at (h : Sources x2) (n : Fin 35) (o : Fin 128) :
    val_main_v29 (F := Ideal) x0 x1 x2 x3 x4 x5 x6 (ix2 n o)
      = layer (I := 1) (O := 128) (by decide) x1 x2 x3 x4 x5 x6 (fun n i => x0 (ix2 n i)) n o := by
  have q : val_main_v29 (F := Ideal) x0 x1 x2 x3 x4 x5 x6 (ix2 n o)
      = max ((∑ k : Fin 1, x0 (ix2 n k) * x5 (ix2 k o))
          + Ideal.div (val_main_v14 (F := Ideal) x0 x1 x2 x3 x4 (ix2 n o)) (max (val_main_v18 (F := Ideal) x2 (ix1 n)) 1)
          + x6 (ix1 o)) 0 := by
    unfold val_main_v29 val_main_v28 val_main_v27 val_main_v26 val_main_v25 val_main_v24 val_main_v23 val_main_v22 val_main_v21 val_main_v20 val_main_v19
      val_main_cst_2 val_main_call2_v0 val_main_call2_cst
    pointwise
  rw [q, show val_main_v18 (F := Ideal) x2 (ix1 n) = degree x2 n from degree_at x2 n, total1_at (hC := by decide) (h := h)]
  rfl

/-- The weights the second layer generates. -/
theorem gen2_at (e : Fin 1190) (j : Fin 16384) :
    val_main_v38 (F := Ideal) x1 x7 x8 (ix2 e j) = gen x1 x7 x8 e j := by
  unfold gen val_main_v38 val_main_v37 val_main_v36 val_main_v35 val_main_v34 val_main_call3_v0 val_main_call3_cst
  pointwise

/-- The same weights, laid out as one matrix per edge. -/
theorem weight2_at (hC : 128 * 128 = 16384) (e : Fin 1190) (i : Fin 128) (o : Fin 128) :
    val_main_v39 (F := Ideal) x1 x7 x8 (ix3 e i o) = gen x1 x7 x8 e (flat hC i o) := by
  rw [val_main_v39_apply, ← gen2_at]
  have he := e.isLt
  have hi := i.isLt
  have ho := o.isLt
  refine congrArg (val_main_v38 (F := Ideal) x1 x7 x8) (funext fun a => Fin.ext ?_)
  match a with
  | ⟨0, _⟩ =>
    show ((e.val * 128 + i.val) * 128 + o.val) / 16384 = e.val
    omega
  | ⟨1, _⟩ =>
    show ((e.val * 128 + i.val) * 128 + o.val) % 16384 = i.val * 128 + o.val
    omega

/-- The row that the second layer takes for an edge. -/
theorem take2_at (h : Sources x2) (e : Fin 1190) (k : Fin 128) :
    val_main_v40 (F := Ideal) x0 x1 x2 x3 x4 x5 x6 (ix2 e k) = val_main_v29 (F := Ideal) x0 x1 x2 x3 x4 x5 x6 (ix2 (src x2 e) k) := by
  have q : val_main_v40 (F := Ideal) x0 x1 x2 x3 x4 x5 x6 (ix2 e k)
      = Scalar.select (val_main_call4_v12 (F := Ideal) x2 (ix1 e))
          (val_main_call4_v13 (F := Ideal) x0 x1 x2 x3 x4 x5 x6 (ix2 e k)) (val_main_call4_v15 (F := Ideal) (ix2 e k)) := by
    unfold val_main_v40 val_main_call4_v14
    pointwise
  rw [q, show val_main_call4_v12 (F := Ideal) x2 (ix1 e) = 1#1 from mask_at x2 h e]
  unfold val_main_call4_v13
  exact gather_128 x2 h (val_main_v29 (F := Ideal) x0 x1 x2 x3 x4 x5 x6) e k

/-- The second layer's messages. -/
theorem message2_at (hC : 128 * 128 = 16384) (h : Sources x2) (e : Fin 1190) (o : Fin 128) :
    val_main_v41 (F := Ideal) x0 x1 x2 x3 x4 x5 x6 x7 x8 (ix2 e o)
      = message hC x1 x2 x7 x8 (fun n i => (val_main_v29 (F := Ideal) x0 x1 x2 x3 x4 x5 x6) (ix2 n i)) o e := by
  rw [val_main_v41_apply]
  unfold message
  refine Finset.sum_congr rfl fun i _ => ?_
  beta_reduce
  rw [← take2_at (h := h), ← weight2_at]
  refine congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl
    | ⟨2, _⟩ => rfl

/-- The second layer's sums of messages. -/
theorem total2_at (hC : 128 * 128 = 16384) (h : Sources x2) (n : Fin 35) (o : Fin 128) :
    val_main_v44 (F := Ideal) x0 x1 x2 x3 x4 x5 x6 x7 x8 (ix2 n o)
      = total x2 (message hC x1 x2 x7 x8 (fun n i => (val_main_v29 (F := Ideal) x0 x1 x2 x3 x4 x5 x6) (ix2 n i)) o) n := by
  have q : val_main_v44 (F := Ideal) x0 x1 x2 x3 x4 x5 x6 x7 x8 (ix2 n o) = val_main_v42 (F := Ideal) (ix2 n o)
      + ∑ e : Fin 1190, if val_main_v43 (F := Ideal) x2 (ix2 e 0) = BitVec.ofNat 32 n.val
          then val_main_v41 (F := Ideal) x0 x1 x2 x3 x4 x5 x6 x7 x8 (ix2 e o) else 0 :=
    scatter_128 _ _ _ n o
  have z : val_main_v42 (F := Ideal) (ix2 n o) = 0 := by
    unfold val_main_v42 val_main_cst_3
    pointwise
  rw [q, z, zero_add]
  unfold total
  refine Finset.sum_congr rfl fun e _ => ?_
  rw [show val_main_v43 (F := Ideal) x2 (ix2 e 0) = x2 (ix2 1 e) from targets_at x2 e, message2_at (hC := hC) (h := h)]

/-- The second layer's rows. -/
theorem rows2_at (h : Sources x2) (n : Fin 35) (o : Fin 128) :
    val_main_v59 (F := Ideal) x0 x1 x2 x3 x4 x5 x6 x7 x8 x9 x10 (ix2 n o)
      = layer (I := 128) (O := 128) (by decide) x1 x2 x7 x8 x9 x10 (fun n i => (val_main_v29 (F := Ideal) x0 x1 x2 x3 x4 x5 x6) (ix2 n i)) n o := by
  have q : val_main_v59 (F := Ideal) x0 x1 x2 x3 x4 x5 x6 x7 x8 x9 x10 (ix2 n o)
      = max ((∑ k : Fin 128, (val_main_v29 (F := Ideal) x0 x1 x2 x3 x4 x5 x6) (ix2 n k) * x9 (ix2 k o))
          + Ideal.div (val_main_v44 (F := Ideal) x0 x1 x2 x3 x4 x5 x6 x7 x8 (ix2 n o)) (max (val_main_v48 (F := Ideal) x2 (ix1 n)) 1)
          + x10 (ix1 o)) 0 := by
    unfold val_main_v59 val_main_v58 val_main_v57 val_main_v56 val_main_v55 val_main_v54 val_main_v53 val_main_v52 val_main_v51 val_main_v50 val_main_v49
      val_main_cst_6 val_main_call5_v0 val_main_call5_cst
    pointwise
  rw [q, show val_main_v48 (F := Ideal) x2 (ix1 n) = degree x2 n from degree_at x2 n, total2_at (hC := by decide) (h := h)]
  rfl

/-- The weights the third layer generates. -/
theorem gen3_at (e : Fin 1190) (j : Fin 8192) :
    val_main_v68 (F := Ideal) x1 x11 x12 (ix2 e j) = gen x1 x11 x12 e j := by
  unfold gen val_main_v68 val_main_v67 val_main_v66 val_main_v65 val_main_v64 val_main_call6_v0 val_main_call6_cst
  pointwise

/-- The same weights, laid out as one matrix per edge. -/
theorem weight3_at (hC : 128 * 64 = 8192) (e : Fin 1190) (i : Fin 128) (o : Fin 64) :
    val_main_v69 (F := Ideal) x1 x11 x12 (ix3 e i o) = gen x1 x11 x12 e (flat hC i o) := by
  rw [val_main_v69_apply, ← gen3_at]
  have he := e.isLt
  have hi := i.isLt
  have ho := o.isLt
  refine congrArg (val_main_v68 (F := Ideal) x1 x11 x12) (funext fun a => Fin.ext ?_)
  match a with
  | ⟨0, _⟩ =>
    show ((e.val * 128 + i.val) * 64 + o.val) / 8192 = e.val
    omega
  | ⟨1, _⟩ =>
    show ((e.val * 128 + i.val) * 64 + o.val) % 8192 = i.val * 64 + o.val
    omega

/-- The row that the third layer takes for an edge. -/
theorem take3_at (h : Sources x2) (e : Fin 1190) (k : Fin 128) :
    val_main_v70 (F := Ideal) x0 x1 x2 x3 x4 x5 x6 x7 x8 x9 x10 (ix2 e k) = val_main_v59 (F := Ideal) x0 x1 x2 x3 x4 x5 x6 x7 x8 x9 x10 (ix2 (src x2 e) k) := by
  have q : val_main_v70 (F := Ideal) x0 x1 x2 x3 x4 x5 x6 x7 x8 x9 x10 (ix2 e k)
      = Scalar.select (val_main_call7_v12 (F := Ideal) x2 (ix1 e))
          (val_main_call7_v13 (F := Ideal) x0 x1 x2 x3 x4 x5 x6 x7 x8 x9 x10 (ix2 e k)) (val_main_call7_v15 (F := Ideal) (ix2 e k)) := by
    unfold val_main_v70 val_main_call7_v14
    pointwise
  rw [q, show val_main_call7_v12 (F := Ideal) x2 (ix1 e) = 1#1 from mask_at x2 h e]
  unfold val_main_call7_v13
  exact gather_128 x2 h (val_main_v59 (F := Ideal) x0 x1 x2 x3 x4 x5 x6 x7 x8 x9 x10) e k

/-- The third layer's messages. -/
theorem message3_at (hC : 128 * 64 = 8192) (h : Sources x2) (e : Fin 1190) (o : Fin 64) :
    val_main_v71 (F := Ideal) x0 x1 x2 x3 x4 x5 x6 x7 x8 x9 x10 x11 x12 (ix2 e o)
      = message hC x1 x2 x11 x12 (fun n i => (val_main_v59 (F := Ideal) x0 x1 x2 x3 x4 x5 x6 x7 x8 x9 x10) (ix2 n i)) o e := by
  rw [val_main_v71_apply]
  unfold message
  refine Finset.sum_congr rfl fun i _ => ?_
  beta_reduce
  rw [← take3_at (h := h), ← weight3_at]
  refine congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl
    | ⟨2, _⟩ => rfl

/-- The third layer's sums of messages. -/
theorem total3_at (hC : 128 * 64 = 8192) (h : Sources x2) (n : Fin 35) (o : Fin 64) :
    val_main_v74 (F := Ideal) x0 x1 x2 x3 x4 x5 x6 x7 x8 x9 x10 x11 x12 (ix2 n o)
      = total x2 (message hC x1 x2 x11 x12 (fun n i => (val_main_v59 (F := Ideal) x0 x1 x2 x3 x4 x5 x6 x7 x8 x9 x10) (ix2 n i)) o) n := by
  have q : val_main_v74 (F := Ideal) x0 x1 x2 x3 x4 x5 x6 x7 x8 x9 x10 x11 x12 (ix2 n o) = val_main_v72 (F := Ideal) (ix2 n o)
      + ∑ e : Fin 1190, if val_main_v73 (F := Ideal) x2 (ix2 e 0) = BitVec.ofNat 32 n.val
          then val_main_v71 (F := Ideal) x0 x1 x2 x3 x4 x5 x6 x7 x8 x9 x10 x11 x12 (ix2 e o) else 0 :=
    scatter_64 _ _ _ n o
  have z : val_main_v72 (F := Ideal) (ix2 n o) = 0 := by
    unfold val_main_v72 val_main_cst_7
    pointwise
  rw [q, z, zero_add]
  unfold total
  refine Finset.sum_congr rfl fun e _ => ?_
  rw [show val_main_v73 (F := Ideal) x2 (ix2 e 0) = x2 (ix2 1 e) from targets_at x2 e, message3_at (hC := hC) (h := h)]

/-- The third layer's rows. -/
theorem rows3_at (h : Sources x2) (n : Fin 35) (o : Fin 64) :
    val_main_v89 (F := Ideal) x0 x1 x2 x3 x4 x5 x6 x7 x8 x9 x10 x11 x12 x13 x14 (ix2 n o)
      = layer (I := 128) (O := 64) (by decide) x1 x2 x11 x12 x13 x14 (fun n i => (val_main_v59 (F := Ideal) x0 x1 x2 x3 x4 x5 x6 x7 x8 x9 x10) (ix2 n i)) n o := by
  have q : val_main_v89 (F := Ideal) x0 x1 x2 x3 x4 x5 x6 x7 x8 x9 x10 x11 x12 x13 x14 (ix2 n o)
      = max ((∑ k : Fin 128, (val_main_v59 (F := Ideal) x0 x1 x2 x3 x4 x5 x6 x7 x8 x9 x10) (ix2 n k) * x13 (ix2 k o))
          + Ideal.div (val_main_v74 (F := Ideal) x0 x1 x2 x3 x4 x5 x6 x7 x8 x9 x10 x11 x12 (ix2 n o)) (max (val_main_v78 (F := Ideal) x2 (ix1 n)) 1)
          + x14 (ix1 o)) 0 := by
    unfold val_main_v89 val_main_v88 val_main_v87 val_main_v86 val_main_v85 val_main_v84 val_main_v83 val_main_v82 val_main_v81 val_main_v80 val_main_v79
      val_main_cst_10 val_main_call8_v0 val_main_call8_cst
    pointwise
  rw [q, show val_main_v78 (F := Ideal) x2 (ix1 n) = degree x2 n from degree_at x2 n, total3_at (hC := by decide) (h := h)]
  rfl

/-- The reference's result: the distances of the third layer's rows. -/
theorem distances_at (h : Sources x2) (n n' : Fin 35) :
    val_main_v95 (F := Ideal) x0 x1 x2 x3 x4 x5 x6 x7 x8 x9 x10 x11 x12 x13 x14 (ix2 n n')
      = l1 (layer3 x1 x2 x11 x12 x13 x14 (layer2 x1 x2 x7 x8 x9 x10 (layer1 x0 x1 x2 x3 x4 x5 x6))) n' n := by
  have e1 : (fun (n : Fin 35) (i : Fin 128) => val_main_v29 (F := Ideal) x0 x1 x2 x3 x4 x5 x6 (ix2 n i)) = layer1 x0 x1 x2 x3 x4 x5 x6 :=
    funext fun n => funext fun i => rows1_at _ _ _ _ _ _ _ h n i
  have e2 : (fun (n : Fin 35) (i : Fin 128) => val_main_v59 (F := Ideal) x0 x1 x2 x3 x4 x5 x6 x7 x8 x9 x10 (ix2 n i))
      = layer2 x1 x2 x7 x8 x9 x10 (layer1 x0 x1 x2 x3 x4 x5 x6) := by
    rw [← e1]
    exact funext fun n => funext fun i => rows2_at _ _ _ _ _ _ _ _ _ _ _ h n i
  have e3 : (fun (n : Fin 35) (i : Fin 64) => val_main_v89 (F := Ideal) x0 x1 x2 x3 x4 x5 x6 x7 x8 x9 x10 x11 x12 x13 x14 (ix2 n i))
      = layer3 x1 x2 x11 x12 x13 x14 (layer2 x1 x2 x7 x8 x9 x10 (layer1 x0 x1 x2 x3 x4 x5 x6)) := by
    rw [← e2]
    exact funext fun n => funext fun i => rows3_at _ _ _ _ _ _ _ _ _ _ _ _ _ _ _ h n i
  rw [← e3, val_main_v95_apply]
  have z : val_main_cst_11 (F := Ideal) (Shape.Idx.first h_S_) = 0 := by
    unfold val_main_cst_11
    pointwise
  rw [z, zero_add]
  unfold l1
  refine Finset.sum_congr rfl fun o _ => ?_
  have i3 : idx_main_v95 (ix2 n n') o = ix3 n n' o := funext fun a => match a with
    | ⟨0, _⟩ => rfl
    | ⟨1, _⟩ => rfl
    | ⟨2, _⟩ => rfl
  rw [i3]
  unfold val_main_v94 val_main_v93 val_main_v92 val_main_v91 val_main_v90
  pointwise
  rfl

end Cert.ReferenceIdeal.Reads
-- ==== Proof.Equation.lean ====
/-
  The equation: the array the kernel leaves is the reference's result.
-/
module

public import proofs.«01_k».proof.Proof.KernelResult
public import proofs.«01_k».proof.Proof.RefValue

@[expose] public section

noncomputable section

namespace Cert.Equation

open Idealize.ShloMosaic Cert.Spec

/-- Where every source is a node, the reference's result on the kernel's arguments is the array the kernel leaves: the
    third layer's distances, the same in both orders. -/
theorem results_equal (m : (ℓ : Loc Cert.KernelIdeal.nD Cert.KernelIdeal.τ Cert.KernelIdeal.sig) → Buf (Elt Ideal) ℓ)
    (c : Dev Cert.KernelIdeal.nD)
    (hS : Sources (m ((c.tc : Thread Cert.KernelIdeal.nD Cert.KernelIdeal.τ).loc Cert.KernelIdeal.main_arg2))) :
    Cert.ReferenceIdeal.Read.val_main_v95 (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) (m ((c.tc : Thread Cert.KernelIdeal.nD Cert.KernelIdeal.τ).loc Cert.KernelIdeal.main_arg11))
        (m ((c.tc : Thread Cert.KernelIdeal.nD Cert.KernelIdeal.τ).loc Cert.KernelIdeal.main_arg12)) (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
      = (Cert.KernelIdeal.Gen.dats m 0 c).arrAt 13 Cert.KernelIdeal.cfg0.N := by
  refine Cert.KernelIdeal.Value.ext2 fun n n' => ?_
  refine (Cert.ReferenceIdeal.Reads.distances_at _ _ _ _ _ _ _ _ _ _ _ _ _ _ _ hS n n').trans ?_
  refine (l1_comm (fun i o => layer_nonneg _ _ _ _ _ _ _ _ i o) n' n).trans ?_
  exact (Cert.KernelIdeal.Value.result_at m c hS n n').symm

end Cert.Equation
end
-- ==== Proof.Precondition.lean ====
/-
  What the precondition says: every source is a node.
-/
module

public import proofs.«01_k».proof.Pre_sources_name_nodes
public import proofs.«01_k».proof.Proof.Spec
public import Idealize.ShloMosaic.PureOps.Ideal
public import Idealize.ShloMosaic.Lib.WordCmp

@[expose] public section

set_option maxRecDepth 16384

noncomputable section

namespace Cert.Pre_sources_name_nodes

open Idealize.ShloMosaic Cert.Spec Facts

/-- The shapes the precondition's operations take fit. -/
theorem facts : Facts where
  slices_S2x1190_S1x1190_0_0 := by decide
  shapeCasts_S1x1190_S1190 := by decide
  bcast_S_S1190 := by decide

/-- The precondition's word, as a function of the edge list alone. -/
def word [Facts] (E : IVec S2x1190 32) : IVec S1190 1 :=
  andi
    (cmpi .sge (shapeCast S1190 (extractStridedSlice S1x1190 ![0, 0] E slices_S2x1190_S1x1190_0_0) shapeCasts_S1x1190_S1190)
      (broadcastInDim S1190 ![] bcast_S_S1190 (constantI S_ 32 0#32)))
    (cmpi .slt (shapeCast S1190 (extractStridedSlice S1x1190 ![0, 0] E slices_S2x1190_S1x1190_0_0) shapeCasts_S1x1190_S1190)
      (broadcastInDim S1190 ![] bcast_S_S1190 (constantI S_ 32 35#32)))

/-- At edge `e`, two comparisons of its source. -/
theorem word_at [Facts] (E : IVec S2x1190 32) (e : Fin 1190) :
    word E (ix1 e) = IntOp.andi (IntOp.cmpi .sge (E (ix2 (0 : Fin 2) e)) 0#32) (IntOp.cmpi .slt (E (ix2 (0 : Fin 2) e)) 35#32) := by
  unfold word
  pointwise

/-- A word that is at least 0 and below 35, read signed, is below 35 as a natural number. -/
theorem lt_of_tests (w : BitVec 32) (h : IntOp.andi (IntOp.cmpi .sge w 0#32) (IntOp.cmpi .slt w 35#32) = 1#1) : w.toNat < 35 := by
  rw [WordCmp.cmpi_sge_zero, WordCmp.cmpi_slt_eq, WordCmp.andi_ofBool, WordCmp.ofBool_eq_one_iff, Bool.and_eq_true,
    decide_eq_true_eq, decide_eq_true_eq] at h
  obtain ⟨h0, h1⟩ := h
  rw [BitVec.toInt_eq_toNat_of_lt (by omega)] at h1
  have e : (35#32 : BitVec 32).toInt = 35 := by decide
  omega

/-- Where the precondition is all ones, every source is a node. -/
theorem sources [Facts] (E : IVec S2x1190 32) (h : word E = fun _ => 1#1) : Sources E := fun e =>
  lt_of_tests _ ((word_at E e).symm.trans (congrFun h (ix1 e)))

end Cert.Pre_sources_name_nodes
end
-- ==== Proof.lean ====
/-
  The claims of this directory, put together: the frames of the three programs, and the equation of kernel and reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Equation
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the reference ends with its arguments unchanged and, having no semaphore, every counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- The value claim: where every source is a node, kernel and reference leave the same array. -/
theorem value : Cert.algebraic_KernelIdeal_ReferenceIdeal_pre_sources_name_nodes (hKernelIdeal := Cert.KernelIdeal.Gen.facts)
    (hReferenceIdeal := Cert.ReferenceIdeal.Gen.facts) (hPre_sources_name_nodes := Cert.Pre_sources_name_nodes.facts) := by
  intro m g m' g' hpre hagree
  refine ⟨fun c => (Cert.KernelIdeal.Gen.dats m 0 c).arrAt 13 Cert.KernelIdeal.cfg0.N,
    Cert.KernelIdeal.Value.run_blocks (F := Ideal) m g, ?_⟩
  refine (θ_run Cert.ReferenceIdeal.defs _ _).mono (fun r h c => ⟨?_, (h c).2⟩) (Cert.ReferenceIdeal.Value.run (F := Ideal) m' g')
  obtain ⟨e0, e1, e2, e3, e4, e5, e6, e7, e8, e9, e10, e11, e12, e13, e14⟩ := hagree c
  haveI := Cert.Pre_sources_name_nodes.facts
  refine (h c).1.trans ((Cert.ReferenceIdeal.Read.val_main_v95_eq (F := Ideal) (StableHlo.launchContents m' c)).trans ?_)
  show Cert.ReferenceIdeal.Read.val_main_v95 (F := Ideal)
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14)) = _
  rw [e0, e1, e2, e3, e4, e5, e6, e7, e8, e9, e10, e11, e12, e13, e14]
  exact Cert.Equation.results_equal m c (Cert.Pre_sources_name_nodes.sources _ (hpre c))

/-- Everything that is claimed. -/
theorem claim : Cert.Claim :=
  haveI := Cert.Pre_sources_name_nodes.facts
  ⟨Cert.Kernel.Gen.facts, Cert.KernelIdeal.Gen.facts, Cert.ReferenceIdeal.Gen.facts, Cert.Pre_sources_name_nodes.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, value⟩

end Cert.Proof

end
